-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v8)) (v2 : (c : Dev Cert.QkvIdeal.nD) → Buf (Elt Ideal) ((c.tc : Thread Cert.QkvIdeal.nD Cert.QkvIdeal.τ).loc Cert.QkvIdeal.main_v11)) (v3 : (c : Dev Cert.QkvIdeal.nD) → Buf (Elt Ideal) ((c.tc : Thread Cert.QkvIdeal.nD Cert.QkvIdeal.τ).loc Cert.QkvIdeal.main_v14)) (v4 : (c : Dev Cert.QkvIdeal.nD) → Buf (Elt Ideal) ((c.tc : Thread Cert.QkvIdeal.nD Cert.QkvIdeal.τ).loc Cert.QkvIdeal.main_v17)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v8) = v1 c
          ∧ r.2.mem ((c.tc : Thread Cert.QkvIdeal.nD Cert.QkvIdeal.τ).loc Cert.QkvIdeal.main_v11) = v2 c
          ∧ r.2.mem ((c.tc : Thread Cert.QkvIdeal.nD Cert.QkvIdeal.τ).loc Cert.QkvIdeal.main_v14) = v3 c
          ∧ r.2.mem ((c.tc : Thread Cert.QkvIdeal.nD Cert.QkvIdeal.τ).loc Cert.QkvIdeal.main_v17) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v206) = v0 c
          ∧ r.2.mem ((c.tc : Thread Cert.QkvRefIdeal.nD Cert.QkvRefIdeal.τ).loc Cert.QkvRefIdeal.main_v189_0) = v1 c
          ∧ r.2.mem ((c.tc : Thread Cert.QkvRefIdeal.nD Cert.QkvRefIdeal.τ).loc Cert.QkvRefIdeal.main_v189_1) = v2 c
          ∧ r.2.mem ((c.tc : Thread Cert.QkvRefIdeal.nD Cert.QkvRefIdeal.τ).loc Cert.QkvRefIdeal.main_v204_0) = v3 c
          ∧ r.2.mem ((c.tc : Thread Cert.QkvRefIdeal.nD Cert.QkvRefIdeal.τ).loc Cert.QkvRefIdeal.main_v204_1) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v2)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v2) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v123) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)) →
    ∃ (v0 : (c : Dev Cert.GuIdeal.nD) → Buf (Elt Ideal) ((c.tc : Thread Cert.GuIdeal.nD Cert.GuIdeal.τ).loc Cert.GuIdeal.main_v1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v1) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v137) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v120) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hQkv : Cert.Qkv.Facts) (hQkvIdeal : Cert.QkvIdeal.Facts) (hQkvRefIdeal : Cert.QkvRefIdeal.Facts) (hWo : Cert.Wo.Facts) (hWoIdeal : Cert.WoIdeal.Facts) (hWoRefIdeal : Cert.WoRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts),
    quiescent_Qkv (hQkv := hQkv)
    ∧ quiescent_QkvIdeal (hQkvIdeal := hQkvIdeal)
    ∧ quiescent_QkvRefIdeal (hQkvRefIdeal := hQkvRefIdeal)
    ∧ quiescent_Wo (hWo := hWo)
    ∧ quiescent_WoIdeal (hWoIdeal := hWoIdeal)
    ∧ quiescent_WoRefIdeal (hWoRefIdeal := hWoRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal (hQkvIdeal := hQkvIdeal) (hQkvRefIdeal := hQkvRefIdeal)
    ∧ preserves_Wo_WoIdeal
    ∧ algebraic_WoIdeal_WoRefIdeal (hWoIdeal := hWoIdeal) (hWoRefIdeal := hWoRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
-- ==== Qkv.lean ====
abbrev S112x1x8192 : Shape := ⟨3, ![112, 1, 8192]⟩
abbrev S8192 : Shape := ⟨1, ![8192]⟩
abbrev S1024x2560 : Shape := ⟨2, ![1024, 2560]⟩
abbrev S64x2560 : Shape := ⟨2, ![64, 2560]⟩
abbrev S2560 : Shape := ⟨1, ![2560]⟩
abbrev S112x1x64 : Shape := ⟨3, ![112, 1, 64]⟩
abbrev S112x8192 : Shape := ⟨2, ![112, 8192]⟩
abbrev S1x8192 : Shape := ⟨2, ![1, 8192]⟩
abbrev S1x2560 : Shape := ⟨2, ![1, 2560]⟩
abbrev S112x64 : Shape := ⟨2, ![112, 64]⟩
abbrev S112x2048 : Shape := ⟨2, ![112, 2048]⟩
abbrev S112x256 : Shape := ⟨2, ![112, 256]⟩
abbrev S1024x512 : Shape := ⟨2, ![1024, 512]⟩
abbrev S64x512 : Shape := ⟨2, ![64, 512]⟩
abbrev S1x512 : Shape := ⟨2, ![1, 512]⟩
abbrev S5x112x512 : Shape := ⟨3, ![5, 112, 512]⟩
abbrev S112 : Shape := ⟨1, ![112]⟩
abbrev S112x1 : Shape := ⟨2, ![112, 1]⟩
abbrev S1024x8x512 : Shape := ⟨3, ![1024, 8, 512]⟩
abbrev S1024x1x512 : Shape := ⟨3, ![1024, 1, 512]⟩
abbrev S8192x512 : Shape := ⟨2, ![8192, 512]⟩
abbrev S64x128x512 : Shape := ⟨3, ![64, 128, 512]⟩
abbrev S64x1x512 : Shape := ⟨3, ![64, 1, 512]⟩
abbrev S112x512 : Shape := ⟨2, ![112, 512]⟩
abbrev S1x112x512 : Shape := ⟨3, ![1, 112, 512]⟩
abbrev S112x128 : Shape := ⟨2, ![112, 128]⟩
abbrev S1x112x128 : Shape := ⟨3, ![1, 112, 128]⟩
abbrev S112x1x2x128 : Shape := ⟨4, ![112, 1, 2, 128]⟩
abbrev S112x1x2x1 : Shape := ⟨4, ![112, 1, 2, 1]⟩
abbrev S112x1x2 : Shape := ⟨3, ![112, 1, 2]⟩

abbrev nBuf : Space → Nat
  | .hbm => 29
  | .vmem => 17
  | .smem => 0
  | _ => 0

abbrev bufTy : (tb : Table) → Fin (tcTables nBuf tb) → BufTy
  | .hbm, ⟨0, _⟩ => ⟨S112x1x8192, .bf16⟩
  | .hbm, ⟨1, _⟩ => ⟨S8192, .f32⟩
  | .hbm, ⟨2, _⟩ => ⟨S1024x2560, .i32⟩
  | .hbm, ⟨3, _⟩ => ⟨S64x2560, .bf16⟩
  | .hbm, ⟨4, _⟩ => ⟨S2560, .f32⟩
  | .hbm, ⟨5, _⟩ => ⟨S112x1x64, .f32⟩
  | .hbm, ⟨6, _⟩ => ⟨S112x1x64, .f32⟩
  | .hbm, ⟨7, _⟩ => ⟨S112x8192, .bf16⟩
  | .hbm, ⟨8, _⟩ => ⟨S1x8192, .f32⟩
  | .hbm, ⟨9, _⟩ => ⟨S1x2560, .f32⟩
  | .hbm, ⟨10, _⟩ => ⟨S112x64, .f32⟩
  | .hbm, ⟨11, _⟩ => ⟨S112x64, .f32⟩
  | .hbm, ⟨12, _⟩ => ⟨S112x2048, .bf16⟩
  | .hbm, ⟨13, _⟩ => ⟨S112x256, .f32⟩
  | .hbm, ⟨14, _⟩ => ⟨S112x256, .f32⟩
  | .hbm, ⟨15, _⟩ => ⟨S112x256, .f32⟩
  | .hbm, ⟨16, _⟩ => ⟨S112x256, .f32⟩
  | .hbm, ⟨17, _⟩ => ⟨S112x1x2x128, .f32⟩
  | .hbm, ⟨18, _⟩ => ⟨S112x1x2x128, .i32⟩
  | .hbm, ⟨19, _⟩ => ⟨S112x1x2x128, .i8⟩
  | .hbm, ⟨20, _⟩ => ⟨S112x1x2x128, .f32⟩
  | .hbm, ⟨21, _⟩ => ⟨S112x1x2x1, .f32⟩
  | .hbm, ⟨22, _⟩ => ⟨S112x1x2, .f32⟩
  | .hbm, ⟨23, _⟩ => ⟨S112x1x2x128, .f32⟩
  | .hbm, ⟨24, _⟩ => ⟨S112x1x2x128, .i32⟩
  | .hbm, ⟨25, _⟩ => ⟨S112x1x2x128, .i8⟩
  | .hbm, ⟨26, _⟩ => ⟨S112x1x2x128, .f32⟩
  | .hbm, ⟨27, _⟩ => ⟨S112x1x2x1, .f32⟩
  | .hbm, ⟨28, _⟩ => ⟨S112x1x2, .f32⟩
  | .local _ .vmem, ⟨0, _⟩ => ⟨S112x8192, .bf16⟩
  | .local _ .vmem, ⟨1, _⟩ => ⟨S1x8192, .f32⟩
  | .local _ .vmem, ⟨2, _⟩ => ⟨S1024x512, .i32⟩
  | .local _ .vmem, ⟨3, _⟩ => ⟨S1024x512, .i32⟩
  | .local _ .vmem, ⟨4, _⟩ => ⟨S64x512, .bf16⟩
  | .local _ .vmem, ⟨5, _⟩ => ⟨S64x512, .bf16⟩
  | .local _ .vmem, ⟨6, _⟩ => ⟨S1x512, .f32⟩
  | .local _ .vmem, ⟨7, _⟩ => ⟨S1x512, .f32⟩
  | .local _ .vmem, ⟨8, _⟩ => ⟨S112x64, .f32⟩
  | .local _ .vmem, ⟨9, _⟩ => ⟨S112x64, .f32⟩
  | .local _ .vmem, ⟨10, _⟩ => ⟨S112x2048, .bf16⟩
  | .local _ .vmem, ⟨11, _⟩ => ⟨S112x256, .f32⟩
  | .local _ .vmem, ⟨12, _⟩ => ⟨S112x256, .f32⟩
  | .local _ .vmem, ⟨13, _⟩ => ⟨S112x256, .f32⟩
  | .local _ .vmem, ⟨14, _⟩ => ⟨S112x256, .f32⟩
  | .local _ .vmem, ⟨15, _⟩ => ⟨S112x8192, .bf16⟩
  | .local _ .vmem, ⟨16, _⟩ => ⟨S5x112x512, .f32⟩
  | _, _ => ⟨S112x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![5], ![false]⟩

def k0_off1 (i : grid0.Coords) : Fin 3 → Nat :=
  let arg0 : BitVec 32 := BitVec.ofNat 32 (i 0).val
  let v31 : Index := Scalar.indexCast arg0
  let c0_9 : Index := 0#32
  let c0_10 : Index := 0#32
  ![v31.toNat, 0, 0]
def k0_cond2 (i : grid0.Coords) : BitVec 1 :=
  let arg0 : BitVec 32 := BitVec.ofNat 32 (i 0).val
  let c4_i32_11 : BitVec 32 := 4#32
  let v35 : BitVec 1 := Scalar.cmpi .eq arg0 c4_i32_11
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S112x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S112x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S112x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S112x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S112x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S112x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S112x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S112x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkvRefIdeal.lean ====
abbrev S112x1x8192 : Shape := ⟨3, ![112, 1, 8192]⟩
abbrev S8192 : Shape := ⟨1, ![8192]⟩
abbrev S1024x2560 : Shape := ⟨2, ![1024, 2560]⟩
abbrev S64x2560 : Shape := ⟨2, ![64, 2560]⟩
abbrev S2560 : Shape := ⟨1, ![2560]⟩
abbrev S112x1x64 : Shape := ⟨3, ![112, 1, 64]⟩
abbrev S_ : Shape := ⟨0, ![]⟩
abbrev S112x1 : Shape := ⟨2, ![112, 1]⟩
abbrev S112x1x1 : Shape := ⟨3, ![112, 1, 1]⟩
abbrev S1x1x8192 : Shape := ⟨3, ![1, 1, 8192]⟩
abbrev S112x8192 : Shape := ⟨2, ![112, 8192]⟩
abbrev S64x16x2560 : Shape := ⟨3, ![64, 16, 2560]⟩
abbrev S64x1x2560 : Shape := ⟨3, ![64, 1, 2560]⟩
abbrev S112x1024 : Shape := ⟨2, ![112, 1024]⟩
abbrev S112x2560 : Shape := ⟨2, ![112, 2560]⟩
abbrev S1x2560 : Shape := ⟨2, ![1, 2560]⟩
abbrev S112x1x2560 : Shape := ⟨3, ![112, 1, 2560]⟩
abbrev S112x1x2048 : Shape := ⟨3, ![112, 1, 2048]⟩
abbrev S112x1x16x128 : Shape := ⟨4, ![112, 1, 16, 128]⟩
abbrev S112x1x256 : Shape := ⟨3, ![112, 1, 256]⟩
abbrev S112x1x2x128 : Shape := ⟨4, ![112, 1, 2, 128]⟩
abbrev S112x1x1x64 : Shape := ⟨4, ![112, 1, 1, 64]⟩
abbrev S112x1x16x64 : Shape := ⟨4, ![112, 1, 16, 64]⟩
abbrev S112x1x2x64 : Shape := ⟨4, ![112, 1, 2, 64]⟩
abbrev S112x1x2 : Shape := ⟨3, ![112, 1, 2]⟩
abbrev S112x1x2x1 : Shape := ⟨4, ![112, 1, 2, 1]⟩
abbrev S112x2048 : Shape := ⟨2, ![112, 2048]⟩

abbrev nBuf : Space → Nat
  | .hbm => 269
  | .vmem => 0
  | .smem => 0
  | _ => 0

abbrev hbmTy0_0 (i : Nat) : BufTy := match i % 128 with
  | 0 => ⟨S112x1x8192, .bf16⟩
  | 1 => ⟨S8192, .f32⟩
  | 2 => ⟨S1024x2560, .i32⟩
  | 3 => ⟨S64x2560, .bf16⟩
  | 4 => ⟨S2560, .f32⟩
  | 5 => ⟨S112x1x64, .f32⟩
  | 6 => ⟨S112x1x64, .f32⟩
  | 7 => ⟨S112x1x8192, .f32⟩
  | 8 => ⟨S112x1x8192, .f32⟩
  | 9 => ⟨S_, .f32⟩
  | 10 => ⟨S112x1, .f32⟩
  | 11 => ⟨S112x1x1, .f32⟩
  | 12 => ⟨S_, .f32⟩
  | 13 => ⟨S112x1x1, .f32⟩
  | 14 => ⟨S112x1x1, .f32⟩
  | 15 => ⟨S_, .f32⟩
  | 16 => ⟨S112x1x1, .f32⟩
  | 17 => ⟨S112x1x1, .f32⟩
  | 18 => ⟨S112x1x1, .f32⟩
  | 19 => ⟨S112x1x8192, .f32⟩
  | 20 => ⟨S112x1x8192, .f32⟩
  | 21 => ⟨S1x1x8192, .f32⟩
  | 22 => ⟨S112x1x8192, .f32⟩
  | 23 => ⟨S112x1x8192, .f32⟩
  | 24 => ⟨S112x1x8192, .bf16⟩
  | 25 => ⟨S112x8192, .bf16⟩
  | 26 => ⟨S_, .i32⟩
  | 27 => ⟨S1024x2560, .i32⟩
  | 28 => ⟨S1024x2560, .i32⟩
  | 29 => ⟨S_, .i32⟩
  | 30 => ⟨S1024x2560, .i32⟩
  | 31 => ⟨S1024x2560, .i32⟩
  | 32 => ⟨S_, .i32⟩
  | 33 => ⟨S1024x2560, .i32⟩
  | 34 => ⟨S1024x2560, .i32⟩
  | 35 => ⟨S1024x2560, .bf16⟩
  | 36 => ⟨S64x16x2560, .bf16⟩
  | 37 => ⟨S64x1x2560, .bf16⟩
  | 38 => ⟨S64x16x2560, .bf16⟩
  | 39 => ⟨S64x16x2560, .bf16⟩
  | 40 => ⟨S1024x2560, .bf16⟩
  | 41 => ⟨S112x1024, .bf16⟩
  | 42 => ⟨S112x2560, .f32⟩
  | 43 => ⟨S_, .i32⟩
  | 44 => ⟨S1024x2560, .i32⟩
  | 45 => ⟨S1024x2560, .i32⟩
  | 46 => ⟨S_, .i32⟩
  | 47 => ⟨S1024x2560, .i32⟩
  | 48 => ⟨S1024x2560, .i32⟩
  | 49 => ⟨S_, .i32⟩
  | 50 => ⟨S1024x2560, .i32⟩
  | 51 => ⟨S1024x2560, .i32⟩
  | 52 => ⟨S1024x2560, .bf16⟩
  | 53 => ⟨S64x16x2560, .bf16⟩
  | 54 => ⟨S64x1x2560, .bf16⟩
  | 55 => ⟨S64x16x2560, .bf16⟩
  | 56 => ⟨S64x16x2560, .bf16⟩
  | 57 => ⟨S1024x2560, .bf16⟩
  | 58 => ⟨S112x1024, .bf16⟩
  | 59 => ⟨S112x2560, .f32⟩
  | 60 => ⟨S112x2560, .f32⟩
  | 61 => ⟨S_, .i32⟩
  | 62 => ⟨S1024x2560, .i32⟩
  | 63 => ⟨S1024x2560, .i32⟩
  | 64 => ⟨S_, .i32⟩
  | 65 => ⟨S1024x2560, .i32⟩
  | 66 => ⟨S1024x2560, .i32⟩
  | 67 => ⟨S_, .i32⟩
  | 68 => ⟨S1024x2560, .i32⟩
  | 69 => ⟨S1024x2560, .i32⟩
  | 70 => ⟨S1024x2560, .bf16⟩
  | 71 => ⟨S64x16x2560, .bf16⟩
  | 72 => ⟨S64x1x2560, .bf16⟩
  | 73 => ⟨S64x16x2560, .bf16⟩
  | 74 => ⟨S64x16x2560, .bf16⟩
  | 75 => ⟨S1024x2560, .bf16⟩
  | 76 => ⟨S112x1024, .bf16⟩
  | 77 => ⟨S112x2560, .f32⟩
  | 78 => ⟨S112x2560, .f32⟩
  | 79 => ⟨S_, .i32⟩
  | 80 => ⟨S1024x2560, .i32⟩
  | 81 => ⟨S1024x2560, .i32⟩
  | 82 => ⟨S_, .i32⟩
  | 83 => ⟨S1024x2560, .i32⟩
  | 84 => ⟨S1024x2560, .i32⟩
  | 85 => ⟨S_, .i32⟩
  | 86 => ⟨S1024x2560, .i32⟩
  | 87 => ⟨S1024x2560, .i32⟩
  | 88 => ⟨S1024x2560, .bf16⟩
  | 89 => ⟨S64x16x2560, .bf16⟩
  | 90 => ⟨S64x1x2560, .bf16⟩
  | 91 => ⟨S64x16x2560, .bf16⟩
  | 92 => ⟨S64x16x2560, .bf16⟩
  | 93 => ⟨S1024x2560, .bf16⟩
  | 94 => ⟨S112x1024, .bf16⟩
  | 95 => ⟨S112x2560, .f32⟩
  | 96 => ⟨S112x2560, .f32⟩
  | 97 => ⟨S_, .i32⟩
  | 98 => ⟨S1024x2560, .i32⟩
  | 99 => ⟨S1024x2560, .i32⟩
  | 100 => ⟨S_, .i32⟩
  | 101 => ⟨S1024x2560, .i32⟩
  | 102 => ⟨S1024x2560, .i32⟩
  | 103 => ⟨S_, .i32⟩
  | 104 => ⟨S1024x2560, .i32⟩
  | 105 => ⟨S1024x2560, .i32⟩
  | 106 => ⟨S1024x2560, .bf16⟩
  | 107 => ⟨S64x16x2560, .bf16⟩
  | 108 => ⟨S64x1x2560, .bf16⟩
  | 109 => ⟨S64x16x2560, .bf16⟩
  | 110 => ⟨S64x16x2560, .bf16⟩
  | 111 => ⟨S1024x2560, .bf16⟩
  | 112 => ⟨S112x1024, .bf16⟩
  | 113 => ⟨S112x2560, .f32⟩
  | 114 => ⟨S112x2560, .f32⟩
  | 115 => ⟨S_, .i32⟩
  | 116 => ⟨S1024x2560, .i32⟩
  | 117 => ⟨S1024x2560, .i32⟩
  | 118 => ⟨S_, .i32⟩
  | 119 => ⟨S1024x2560, .i32⟩
  | 120 => ⟨S1024x2560, .i32⟩
  | 121 => ⟨S_, .i32⟩
  | 122 => ⟨S1024x2560, .i32⟩
  | 123 => ⟨S1024x2560, .i32⟩
  | 124 => ⟨S1024x2560, .bf16⟩
  | 125 => ⟨S64x16x2560, .bf16⟩
  | 126 => ⟨S64x1x2560, .bf16⟩
  | 127 => ⟨S64x16x2560, .bf16⟩
  | _ => ⟨S112x1x8192, .bf16⟩

abbrev hbmTy0_1 (i : Nat) : BufTy := match i % 128 with
  | 0 => ⟨S64x16x2560, .bf16⟩
  | 1 => ⟨S1024x2560, .bf16⟩
  | 2 => ⟨S112x1024, .bf16⟩
  | 3 => ⟨S112x2560, .f32⟩
  | 4 => ⟨S112x2560, .f32⟩
  | 5 => ⟨S_, .i32⟩
  | 6 => ⟨S1024x2560, .i32⟩
  | 7 => ⟨S1024x2560, .i32⟩
  | 8 => ⟨S_, .i32⟩
  | 9 => ⟨S1024x2560, .i32⟩
  | 10 => ⟨S1024x2560, .i32⟩
  | 11 => ⟨S_, .i32⟩
  | 12 => ⟨S1024x2560, .i32⟩
  | 13 => ⟨S1024x2560, .i32⟩
  | 14 => ⟨S1024x2560, .bf16⟩
  | 15 => ⟨S64x16x2560, .bf16⟩
  | 16 => ⟨S64x1x2560, .bf16⟩
  | 17 => ⟨S64x16x2560, .bf16⟩
  | 18 => ⟨S64x16x2560, .bf16⟩
  | 19 => ⟨S1024x2560, .bf16⟩
  | 20 => ⟨S112x1024, .bf16⟩
  | 21 => ⟨S112x2560, .f32⟩
  | 22 => ⟨S112x2560, .f32⟩
  | 23 => ⟨S_, .i32⟩
  | 24 => ⟨S1024x2560, .i32⟩
  | 25 => ⟨S1024x2560, .i32⟩
  | 26 => ⟨S_, .i32⟩
  | 27 => ⟨S1024x2560, .i32⟩
  | 28 => ⟨S1024x2560, .i32⟩
  | 29 => ⟨S_, .i32⟩
  | 30 => ⟨S1024x2560, .i32⟩
  | 31 => ⟨S1024x2560, .i32⟩
  | 32 => ⟨S1024x2560, .bf16⟩
  | 33 => ⟨S64x16x2560, .bf16⟩
  | 34 => ⟨S64x1x2560, .bf16⟩
  | 35 => ⟨S64x16x2560, .bf16⟩
  | 36 => ⟨S64x16x2560, .bf16⟩
  | 37 => ⟨S1024x2560, .bf16⟩
  | 38 => ⟨S112x1024, .bf16⟩
  | 39 => ⟨S112x2560, .f32⟩
  | 40 => ⟨S112x2560, .f32⟩
  | 41 => ⟨S1x2560, .f32⟩
  | 42 => ⟨S112x2560, .f32⟩
  | 43 => ⟨S112x2560, .f32⟩
  | 44 => ⟨S112x1x2560, .f32⟩
  | 45 => ⟨S112x1x2048, .f32⟩
  | 46 => ⟨S112x1x16x128, .f32⟩
  | 47 => ⟨S112x1x256, .f32⟩
  | 48 => ⟨S112x1x2x128, .f32⟩
  | 49 => ⟨S112x1x256, .f32⟩
  | 50 => ⟨S112x1x2x128, .f32⟩
  | 51 => ⟨S112x1x1x64, .f32⟩
  | 52 => ⟨S112x1x1x64, .f32⟩
  | 53 => ⟨S112x1x16x64, .f32⟩
  | 54 => ⟨S112x1x16x64, .f32⟩
  | 55 => ⟨S112x1x16x64, .f32⟩
  | 56 => ⟨S112x1x16x64, .f32⟩
  | 57 => ⟨S112x1x16x64, .f32⟩
  | 58 => ⟨S112x1x16x64, .f32⟩
  | 59 => ⟨S112x1x16x64, .f32⟩
  | 60 => ⟨S112x1x16x64, .f32⟩
  | 61 => ⟨S112x1x16x64, .f32⟩
  | 62 => ⟨S112x1x16x64, .f32⟩
  | 63 => ⟨S112x1x16x64, .f32⟩
  | 64 => ⟨S112x1x16x64, .f32⟩
  | 65 => ⟨S112x1x16x128, .f32⟩
  | 66 => ⟨S112x1x1x64, .f32⟩
  | 67 => ⟨S112x1x1x64, .f32⟩
  | 68 => ⟨S112x1x2x64, .f32⟩
  | 69 => ⟨S112x1x2x64, .f32⟩
  | 70 => ⟨S112x1x2x64, .f32⟩
  | 71 => ⟨S112x1x2x64, .f32⟩
  | 72 => ⟨S112x1x2x64, .f32⟩
  | 73 => ⟨S112x1x2x64, .f32⟩
  | 74 => ⟨S112x1x2x64, .f32⟩
  | 75 => ⟨S112x1x2x64, .f32⟩
  | 76 => ⟨S112x1x2x64, .f32⟩
  | 77 => ⟨S112x1x2x64, .f32⟩
  | 78 => ⟨S112x1x2x64, .f32⟩
  | 79 => ⟨S112x1x2x64, .f32⟩
  | 80 => ⟨S112x1x2x128, .f32⟩
  | 81 => ⟨S112x1x2x128, .f32⟩
  | 82 => ⟨S_, .f32⟩
  | 83 => ⟨S112x1x2, .f32⟩
  | 84 => ⟨S_, .f32⟩
  | 85 => ⟨S112x1x2, .f32⟩
  | 86 => ⟨S112x1x2, .i1⟩
  | 87 => ⟨S_, .f32⟩
  | 88 => ⟨S112x1x2, .f32⟩
  | 89 => ⟨S112x1x2, .f32⟩
  | 90 => ⟨S_, .f32⟩
  | 91 => ⟨S_, .f32⟩
  | 92 => ⟨S112x1x2, .f32⟩
  | 93 => ⟨S112x1x2, .f32⟩
  | 94 => ⟨S112x1x2x1, .f32⟩
  | 95 => ⟨S112x1x2x128, .f32⟩
  | 96 => ⟨S112x1x2x128, .f32⟩
  | 97 => ⟨S112x1x2x128, .f32⟩
  | 98 => ⟨S_, .i32⟩
  | 99 => ⟨S_, .i32⟩
  | 100 => ⟨S_, .f32⟩
  | 101 => ⟨S112x1x2x128, .f32⟩
  | 102 => ⟨S112x1x2x128, .f32⟩
  | 103 => ⟨S_, .f32⟩
  | 104 => ⟨S112x1x2x128, .f32⟩
  | 105 => ⟨S112x1x2x128, .f32⟩
  | 106 => ⟨S112x1x2x128, .i32⟩
  | 107 => ⟨S112x1x2x128, .i8⟩
  | 108 => ⟨S112x1x2x128, .i8⟩
  | 109 => ⟨S112x1x2, .f32⟩
  | 110 => ⟨S112x1x2x128, .f32⟩
  | 111 => ⟨S_, .f32⟩
  | 112 => ⟨S112x1x2, .f32⟩
  | 113 => ⟨S_, .f32⟩
  | 114 => ⟨S112x1x2, .f32⟩
  | 115 => ⟨S112x1x2, .i1⟩
  | 116 => ⟨S_, .f32⟩
  | 117 => ⟨S112x1x2, .f32⟩
  | 118 => ⟨S112x1x2, .f32⟩
  | 119 => ⟨S_, .f32⟩
  | 120 => ⟨S_, .f32⟩
  | 121 => ⟨S112x1x2, .f32⟩
  | 122 => ⟨S112x1x2, .f32⟩
  | 123 => ⟨S112x1x2x1, .f32⟩
  | 124 => ⟨S112x1x2x128, .f32⟩
  | 125 => ⟨S112x1x2x128, .f32⟩
  | 126 => ⟨S112x1x2x128, .f32⟩
  | 127 => ⟨S_, .i32⟩
  | _ => ⟨S112x1x8192, .bf16⟩

abbrev hbmTy0_2 (i : Nat) : BufTy := match i % 128 with
  | 0 => ⟨S_, .i32⟩
  | 1 => ⟨S_, .f32⟩
  | 2 => ⟨S112x1x2x128, .f32⟩
  | 3 => ⟨S112x1x2x128, .f32⟩
  | 4 => ⟨S_, .f32⟩
  | 5 => ⟨S112x1x2x128, .f32⟩
  | 6 => ⟨S112x1x2x128, .f32⟩
  | 7 => ⟨S112x1x2x128, .i32⟩
  | 8 => ⟨S112x1x2x128, .i8⟩
  | 9 => ⟨S112x1x2x128, .i8⟩
  | 10 => ⟨S112x1x2, .f32⟩
  | 11 => ⟨S112x1x16x128, .bf16⟩
  | 12 => ⟨S112x2048, .bf16⟩
  | _ => ⟨S112x1x8192, .bf16⟩

abbrev hbmTy (i : Nat) : BufTy := match i / 128 with
  | 0 => hbmTy0_0 i
  | 1 => hbmTy0_1 i
  | 2 => hbmTy0_2 i
  | _ => ⟨S112x1x8192, .bf16⟩

abbrev bufTy : (tb : Table) → Fin (tcTables nBuf tb) → BufTy
  | .hbm, ⟨i, _⟩ => hbmTy i
  | _, _ => ⟨S112x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_10 : Ref sig .tc := ⟨.hbm, 79, rfl⟩
abbrev main_v60 : Ref sig .tc := ⟨.hbm, 80, rfl⟩
abbrev main_v61 : Ref sig .tc := ⟨.hbm, 81, rfl⟩
abbrev main_c_11 : Ref sig .tc := ⟨.hbm, 82, rfl⟩
abbrev main_v62 : Ref sig .tc := ⟨.hbm, 83, rfl⟩
abbrev main_v63 : Ref sig .tc := ⟨.hbm, 84, rfl⟩
abbrev main_c_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_13 : Ref sig .tc := ⟨.hbm, 97, rfl⟩
abbrev main_v75 : Ref sig .tc := ⟨.hbm, 98, rfl⟩
abbrev main_v76 : Ref sig .tc := ⟨.hbm, 99, rfl⟩
abbrev main_c_14 : Ref sig .tc := ⟨.hbm, 100, rfl⟩
abbrev main_v77 : Ref sig .tc := ⟨.hbm, 101, rfl⟩
abbrev main_v78 : Ref sig .tc := ⟨.hbm, 102, rfl⟩
abbrev main_c_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c_16 : Ref sig .tc := ⟨.hbm, 115, rfl⟩
abbrev main_v90 : Ref sig .tc := ⟨.hbm, 116, rfl⟩
abbrev main_v91 : Ref sig .tc := ⟨.hbm, 117, rfl⟩
abbrev main_c_17 : Ref sig .tc := ⟨.hbm, 118, rfl⟩
abbrev main_v92 : Ref sig .tc := ⟨.hbm, 119, rfl⟩
abbrev main_v93 : Ref sig .tc := ⟨.hbm, 120, rfl⟩
abbrev main_c_18 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_19 : Ref sig .tc := ⟨.hbm, 133, rfl⟩
abbrev main_v105 : Ref sig .tc := ⟨.hbm, 134, rfl⟩
abbrev main_v106 : Ref sig .tc := ⟨.hbm, 135, rfl⟩
abbrev main_c_20 : Ref sig .tc := ⟨.hbm, 136, rfl⟩
abbrev main_v107 : Ref sig .tc := ⟨.hbm, 137, rfl⟩
abbrev main_v108 : Ref sig .tc := ⟨.hbm, 138, rfl⟩
abbrev main_c_21 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_22 : Ref sig .tc := ⟨.hbm, 151, rfl⟩
abbrev main_v120 : Ref sig .tc := ⟨.hbm, 152, rfl⟩
abbrev main_v121 : Ref sig .tc := ⟨.hbm, 153, rfl⟩
abbrev main_c_23 : Ref sig .tc := ⟨.hbm, 154, rfl⟩
abbrev main_v122 : Ref sig .tc := ⟨.hbm, 155, rfl⟩
abbrev main_v123 : Ref sig .tc := ⟨.hbm, 156, rfl⟩
abbrev main_c_24 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_cst_25 : Ref sig .tc := ⟨.hbm, 210, rfl⟩
abbrev main_v176 : Ref sig .tc := ⟨.hbm, 211, rfl⟩
abbrev main_cst_26 : Ref sig .tc := ⟨.hbm, 212, rfl⟩
abbrev main_v177 : Ref sig .tc := ⟨.hbm, 213, rfl⟩
abbrev main_v178 : Ref sig .tc := ⟨.hbm, 214, rfl⟩
abbrev main_cst_27 : Ref sig .tc := ⟨.hbm, 215, rfl⟩
abbrev main_v179 : Ref sig .tc := ⟨.hbm, 216, rfl⟩
abbrev main_v180 : Ref sig .tc := ⟨.hbm, 217, rfl⟩
abbrev main_cst_28 : Ref sig .tc := ⟨.hbm, 218, rfl⟩
abbrev main_call0_v0 : Ref sig .tc := ⟨.hbm, 219, rfl⟩
abbrev main_call0_v1 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_c_29 : Ref sig .tc := ⟨.hbm, 226, rfl⟩
abbrev main_c_30 : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189_0 : Ref sig .tc := ⟨.hbm, 236, rfl⟩
abbrev main_v189_1 : Ref sig .tc := ⟨.hbm, 237, rfl⟩
abbrev main_v190 : Ref sig .tc := ⟨.hbm, 238, rfl⟩
abbrev main_cst_31 : Ref sig .tc := ⟨.hbm, 239, rfl⟩
abbrev main_v191 : Ref sig .tc := ⟨.hbm, 240, rfl⟩
abbrev main_cst_32 : Ref sig .tc := ⟨.hbm, 241, rfl⟩
abbrev main_v192 : Ref sig .tc := ⟨.hbm, 242, rfl⟩
abbrev main_v193 : Ref sig .tc := ⟨.hbm, 243, rfl⟩
abbrev main_cst_33 : Ref sig .tc := ⟨.hbm, 244, rfl⟩
abbrev main_v194 : Ref sig .tc := ⟨.hbm, 245, rfl⟩
abbrev main_v195 : Ref sig .tc := ⟨.hbm, 246, rfl⟩
abbrev main_cst_34 : Ref sig .tc := ⟨.hbm, 247, rfl⟩
abbrev main_call3_v0 : Ref sig .tc := ⟨.hbm, 248, rfl⟩
abbrev main_call3_v1 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_c_35 : Ref sig .tc := ⟨.hbm, 255, rfl⟩
abbrev main_c_36 : Ref sig .tc := ⟨.hbm, 256, rfl⟩
abbrev main_call5_v0 : Ref sig .tc := ⟨.hbm, 257, rfl⟩
abbrev main_call5_v1 : Ref sig .tc := ⟨.hbm, 258, rfl⟩
abbrev main_call5_v2 : Ref sig .tc := ⟨.hbm, 259, rfl⟩
abbrev main_call5_v3 : Ref sig .tc := ⟨.hbm, 260, rfl⟩
abbrev main_call5_v4 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204_0 : Ref sig .tc := ⟨.hbm, 265, rfl⟩
abbrev main_v204_1 : Ref sig .tc := ⟨.hbm, 266, rfl⟩
abbrev main_v205 : Ref sig .tc := ⟨.hbm, 267, rfl⟩
abbrev main_v206 : Ref sig .tc := ⟨.hbm, 268, rfl⟩

abbrev nD : Nat := 1
abbrev τ : Topo := Topo.v7x

variable {F : FTy → Type} [FloatOps F]
-- ==== Wo.lean ====
abbrev S112x1x2048 : Shape := ⟨3, ![112, 1, 2048]⟩
abbrev S112x1x8192 : Shape := ⟨3, ![112, 1, 8192]⟩
abbrev S256x8192 : Shape := ⟨2, ![256, 8192]⟩
abbrev S16x8192 : Shape := ⟨2, ![16, 8192]⟩
abbrev S112x8192 : Shape := ⟨2, ![112, 8192]⟩
abbrev S112x2048 : Shape := ⟨2, ![112, 2048]⟩
abbrev S112x1024 : Shape := ⟨2, ![112, 1024]⟩
abbrev S256x1024 : Shape := ⟨2, ![256, 1024]⟩
abbrev S16x1024 : Shape := ⟨2, ![16, 1024]⟩
abbrev S256x8x1024 : Shape := ⟨3, ![256, 8, 1024]⟩
abbrev S256x1x1024 : Shape := ⟨3, ![256, 1, 1024]⟩
abbrev S2048x1024 : Shape := ⟨2, ![2048, 1024]⟩
abbrev S16x128x1024 : Shape := ⟨3, ![16, 128, 1024]⟩
abbrev S16x1x1024 : Shape := ⟨3, ![16, 1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S112x1x2048, .bf16⟩
  | .hbm, ⟨1, _⟩ => ⟨S112x1x8192, .bf16⟩
  | .hbm, ⟨2, _⟩ => ⟨S256x8192, .i32⟩
  | .hbm, ⟨3, _⟩ => ⟨S16x8192, .bf16⟩
  | .hbm, ⟨4, _⟩ => ⟨S112x8192, .bf16⟩
  | .hbm, ⟨5, _⟩ => ⟨S112x2048, .bf16⟩
  | .hbm, ⟨6, _⟩ => ⟨S112x8192, .f32⟩
  | .local _ .vmem, ⟨0, _⟩ => ⟨S112x2048, .bf16⟩
  | .local _ .vmem, ⟨1, _⟩ => ⟨S112x1024, .bf16⟩
  | .local _ .vmem, ⟨2, _⟩ => ⟨S112x1024, .bf16⟩
  | .local _ .vmem, ⟨3, _⟩ => ⟨S256x1024, .i32⟩
  | .local _ .vmem, ⟨4, _⟩ => ⟨S256x1024, .i32⟩
  | .local _ .vmem, ⟨5, _⟩ => ⟨S16x1024, .bf16⟩
  | .local _ .vmem, ⟨6, _⟩ => ⟨S16x1024, .bf16⟩
  | .local _ .vmem, ⟨7, _⟩ => ⟨S112x1024, .f32⟩
  | .local _ .vmem, ⟨8, _⟩ => ⟨S112x1024, .f32⟩
  | _, _ => ⟨S112x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S112x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WoRefIdeal.lean ====
abbrev S112x1x2048 : Shape := ⟨3, ![112, 1, 2048]⟩
abbrev S112x1x8192 : Shape := ⟨3, ![112, 1, 8192]⟩
abbrev S256x8192 : Shape := ⟨2, ![256, 8192]⟩
abbrev S16x8192 : Shape := ⟨2, ![16, 8192]⟩
abbrev S112x2048 : Shape := ⟨2, ![112, 2048]⟩
abbrev S_ : Shape := ⟨0, ![]⟩
abbrev S16x16x8192 : Shape := ⟨3, ![16, 16, 8192]⟩
abbrev S16x1x8192 : Shape := ⟨3, ![16, 1, 8192]⟩
abbrev S112x256 : Shape := ⟨2, ![112, 256]⟩
abbrev S112x8192 : Shape := ⟨2, ![112, 8192]⟩

abbrev nBuf : Space → Nat
  | .hbm => 152
  | .vmem => 0
  | .smem => 0
  | _ => 0

abbrev hbmTy0_0 (i : Nat) : BufTy := match i % 128 with
  | 0 => ⟨S112x1x2048, .bf16⟩
  | 1 => ⟨S112x1x8192, .bf16⟩
  | 2 => ⟨S256x8192, .i32⟩
  | 3 => ⟨S16x8192, .bf16⟩
  | 4 => ⟨S112x1x8192, .f32⟩
  | 5 => ⟨S112x2048, .bf16⟩
  | 6 => ⟨S_, .i32⟩
  | 7 => ⟨S256x8192, .i32⟩
  | 8 => ⟨S256x8192, .i32⟩
  | 9 => ⟨S_, .i32⟩
  | 10 => ⟨S256x8192, .i32⟩
  | 11 => ⟨S256x8192, .i32⟩
  | 12 => ⟨S_, .i32⟩
  | 13 => ⟨S256x8192, .i32⟩
  | 14 => ⟨S256x8192, .i32⟩
  | 15 => ⟨S256x8192, .bf16⟩
  | 16 => ⟨S16x16x8192, .bf16⟩
  | 17 => ⟨S16x1x8192, .bf16⟩
  | 18 => ⟨S16x16x8192, .bf16⟩
  | 19 => ⟨S16x16x8192, .bf16⟩
  | 20 => ⟨S256x8192, .bf16⟩
  | 21 => ⟨S112x256, .bf16⟩
  | 22 => ⟨S112x8192, .f32⟩
  | 23 => ⟨S_, .i32⟩
  | 24 => ⟨S256x8192, .i32⟩
  | 25 => ⟨S256x8192, .i32⟩
  | 26 => ⟨S_, .i32⟩
  | 27 => ⟨S256x8192, .i32⟩
  | 28 => ⟨S256x8192, .i32⟩
  | 29 => ⟨S_, .i32⟩
  | 30 => ⟨S256x8192, .i32⟩
  | 31 => ⟨S256x8192, .i32⟩
  | 32 => ⟨S256x8192, .bf16⟩
  | 33 => ⟨S16x16x8192, .bf16⟩
  | 34 => ⟨S16x1x8192, .bf16⟩
  | 35 => ⟨S16x16x8192, .bf16⟩
  | 36 => ⟨S16x16x8192, .bf16⟩
  | 37 => ⟨S256x8192, .bf16⟩
  | 38 => ⟨S112x256, .bf16⟩
  | 39 => ⟨S112x8192, .f32⟩
  | 40 => ⟨S112x8192, .f32⟩
  | 41 => ⟨S_, .i32⟩
  | 42 => ⟨S256x8192, .i32⟩
  | 43 => ⟨S256x8192, .i32⟩
  | 44 => ⟨S_, .i32⟩
  | 45 => ⟨S256x8192, .i32⟩
  | 46 => ⟨S256x8192, .i32⟩
  | 47 => ⟨S_, .i32⟩
  | 48 => ⟨S256x8192, .i32⟩
  | 49 => ⟨S256x8192, .i32⟩
  | 50 => ⟨S256x8192, .bf16⟩
  | 51 => ⟨S16x16x8192, .bf16⟩
  | 52 => ⟨S16x1x8192, .bf16⟩
  | 53 => ⟨S16x16x8192, .bf16⟩
  | 54 => ⟨S16x16x8192, .bf16⟩
  | 55 => ⟨S256x8192, .bf16⟩
  | 56 => ⟨S112x256, .bf16⟩
  | 57 => ⟨S112x8192, .f32⟩
  | 58 => ⟨S112x8192, .f32⟩
  | 59 => ⟨S_, .i32⟩
  | 60 => ⟨S256x8192, .i32⟩
  | 61 => ⟨S256x8192, .i32⟩
  | 62 => ⟨S_, .i32⟩
  | 63 => ⟨S256x8192, .i32⟩
  | 64 => ⟨S256x8192, .i32⟩
  | 65 => ⟨S_, .i32⟩
  | 66 => ⟨S256x8192, .i32⟩
  | 67 => ⟨S256x8192, .i32⟩
  | 68 => ⟨S256x8192, .bf16⟩
  | 69 => ⟨S16x16x8192, .bf16⟩
  | 70 => ⟨S16x1x8192, .bf16⟩
  | 71 => ⟨S16x16x8192, .bf16⟩
  | 72 => ⟨S16x16x8192, .bf16⟩
  | 73 => ⟨S256x8192, .bf16⟩
  | 74 => ⟨S112x256, .bf16⟩
  | 75 => ⟨S112x8192, .f32⟩
  | 76 => ⟨S112x8192, .f32⟩
  | 77 => ⟨S_, .i32⟩
  | 78 => ⟨S256x8192, .i32⟩
  | 79 => ⟨S256x8192, .i32⟩
  | 80 => ⟨S_, .i32⟩
  | 81 => ⟨S256x8192, .i32⟩
  | 82 => ⟨S256x8192, .i32⟩
  | 83 => ⟨S_, .i32⟩
  | 84 => ⟨S256x8192, .i32⟩
  | 85 => ⟨S256x8192, .i32⟩
  | 86 => ⟨S256x8192, .bf16⟩
  | 87 => ⟨S16x16x8192, .bf16⟩
  | 88 => ⟨S16x1x8192, .bf16⟩
  | 89 => ⟨S16x16x8192, .bf16⟩
  | 90 => ⟨S16x16x8192, .bf16⟩
  | 91 => ⟨S256x8192, .bf16⟩
  | 92 => ⟨S112x256, .bf16⟩
  | 93 => ⟨S112x8192, .f32⟩
  | 94 => ⟨S112x8192, .f32⟩
  | 95 => ⟨S_, .i32⟩
  | 96 => ⟨S256x8192, .i32⟩
  | 97 => ⟨S256x8192, .i32⟩
  | 98 => ⟨S_, .i32⟩
  | 99 => ⟨S256x8192, .i32⟩
  | 100 => ⟨S256x8192, .i32⟩
  | 101 => ⟨S_, .i32⟩
  | 102 => ⟨S256x8192, .i32⟩
  | 103 => ⟨S256x8192, .i32⟩
  | 104 => ⟨S256x8192, .bf16⟩
  | 105 => ⟨S16x16x8192, .bf16⟩
  | 106 => ⟨S16x1x8192, .bf16⟩
  | 107 => ⟨S16x16x8192, .bf16⟩
  | 108 => ⟨S16x16x8192, .bf16⟩
  | 109 => ⟨S256x8192, .bf16⟩
  | 110 => ⟨S112x256, .bf16⟩
  | 111 => ⟨S112x8192, .f32⟩
  | 112 => ⟨S112x8192, .f32⟩
  | 113 => ⟨S_, .i32⟩
  | 114 => ⟨S256x8192, .i32⟩
  | 115 => ⟨S256x8192, .i32⟩
  | 116 => ⟨S_, .i32⟩
  | 117 => ⟨S256x8192, .i32⟩
  | 118 => ⟨S256x8192, .i32⟩
  | 119 => ⟨S_, .i32⟩
  | 120 => ⟨S256x8192, .i32⟩
  | 121 => ⟨S256x8192, .i32⟩
  | 122 => ⟨S256x8192, .bf16⟩
  | 123 => ⟨S16x16x8192, .bf16⟩
  | 124 => ⟨S16x1x8192, .bf16⟩
  | 125 => ⟨S16x16x8192, .bf16⟩
  | 126 => ⟨S16x16x8192, .bf16⟩
  | 127 => ⟨S256x8192, .bf16⟩
  | _ => ⟨S112x1x2048, .bf16⟩

abbrev hbmTy0_1 (i : Nat) : BufTy := match i % 128 with
  | 0 => ⟨S112x256, .bf16⟩
  | 1 => ⟨S112x8192, .f32⟩
  | 2 => ⟨S112x8192, .f32⟩
  | 3 => ⟨S_, .i32⟩
  | 4 => ⟨S256x8192, .i32⟩
  | 5 => ⟨S256x8192, .i32⟩
  | 6 => ⟨S_, .i32⟩
  | 7 => ⟨S256x8192, .i32⟩
  | 8 => ⟨S256x8192, .i32⟩
  | 9 => ⟨S_, .i32⟩
  | 10 => ⟨S256x8192, .i32⟩
  | 11 => ⟨S256x8192, .i32⟩
  | 12 => ⟨S256x8192, .bf16⟩
  | 13 => ⟨S16x16x8192, .bf16⟩
  | 14 => ⟨S16x1x8192, .bf16⟩
  | 15 => ⟨S16x16x8192, .bf16⟩
  | 16 => ⟨S16x16x8192, .bf16⟩
  | 17 => ⟨S256x8192, .bf16⟩
  | 18 => ⟨S112x256, .bf16⟩
  | 19 => ⟨S112x8192, .f32⟩
  | 20 => ⟨S112x8192, .f32⟩
  | 21 => ⟨S112x1x8192, .f32⟩
  | 22 => ⟨S112x1x8192, .f32⟩
  | 23 => ⟨S112x8192, .f32⟩
  | _ => ⟨S112x1x2048, .bf16⟩

abbrev hbmTy (i : Nat) : BufTy := match i / 128 with
  | 0 => hbmTy0_0 i
  | 1 => hbmTy0_1 i
  | _ => ⟨S112x1x2048, .bf16⟩

abbrev bufTy : (tb : Table) → Fin (tcTables nBuf tb) → BufTy
  | .hbm, ⟨i, _⟩ => hbmTy i
  | _, _ => ⟨S112x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_11 : Ref sig .tc := ⟨.hbm, 77, rfl⟩
abbrev main_v61 : Ref sig .tc := ⟨.hbm, 78, rfl⟩
abbrev main_v62 : Ref sig .tc := ⟨.hbm, 79, rfl⟩
abbrev main_c_12 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_14 : Ref sig .tc := ⟨.hbm, 95, rfl⟩
abbrev main_v76 : Ref sig .tc := ⟨.hbm, 96, rfl⟩
abbrev main_v77 : Ref sig .tc := ⟨.hbm, 97, rfl⟩
abbrev main_c_15 : Ref sig .tc := ⟨.hbm, 98, rfl⟩
abbrev main_v78 : Ref sig .tc := ⟨.hbm, 99, rfl⟩
abbrev main_v79 : Ref sig .tc := ⟨.hbm, 100, rfl⟩
abbrev main_c_16 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_17 : Ref sig .tc := ⟨.hbm, 113, rfl⟩
abbrev main_v91 : Ref sig .tc := ⟨.hbm, 114, rfl⟩
abbrev main_v92 : Ref sig .tc := ⟨.hbm, 115, rfl⟩
abbrev main_c_18 : Ref sig .tc := ⟨.hbm, 116, rfl⟩
abbrev main_v93 : Ref sig .tc := ⟨.hbm, 117, rfl⟩
abbrev main_v94 : Ref sig .tc := ⟨.hbm, 118, rfl⟩
abbrev main_c_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_20 : Ref sig .tc := ⟨.hbm, 131, rfl⟩
abbrev main_v106 : Ref sig .tc := ⟨.hbm, 132, rfl⟩
abbrev main_v107 : Ref sig .tc := ⟨.hbm, 133, rfl⟩
abbrev main_c_21 : Ref sig .tc := ⟨.hbm, 134, rfl⟩
abbrev main_v108 : Ref sig .tc := ⟨.hbm, 135, rfl⟩
abbrev main_v109 : Ref sig .tc := ⟨.hbm, 136, rfl⟩
abbrev main_c_22 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩

abbrev nD : Nat := 1
abbrev τ : Topo := Topo.v7x

variable {F : FTy → Type} [FloatOps F]
-- ==== Gu.lean ====
abbrev S112x8192 : Shape := ⟨2, ![112, 8192]⟩
abbrev S8192 : Shape := ⟨1, ![8192]⟩
abbrev S1024x14848 : Shape := ⟨2, ![1024, 14848]⟩
abbrev S64x14848 : Shape := ⟨2, ![64, 14848]⟩
abbrev S1x8192 : Shape := ⟨2, ![1, 8192]⟩
abbrev S112x7424 : Shape := ⟨2, ![112, 7424]⟩
abbrev S1024x256 : Shape := ⟨2, ![1024, 256]⟩
abbrev S64x256 : Shape := ⟨2, ![64, 256]⟩
abbrev S112x256 : Shape := ⟨2, ![112, 256]⟩
abbrev S112 : Shape := ⟨1, ![112]⟩
abbrev S112x1 : Shape := ⟨2, ![112, 1]⟩
abbrev S1024x8x256 : Shape := ⟨3, ![1024, 8, 256]⟩
abbrev S1024x1x256 : Shape := ⟨3, ![1024, 1, 256]⟩
abbrev S8192x256 : Shape := ⟨2, ![8192, 256]⟩
abbrev S64x128x256 : Shape := ⟨3, ![64, 128, 256]⟩
abbrev S64x1x256 : Shape := ⟨3, ![64, 1, 256]⟩

abbrev nBuf : Space → Nat
  | .hbm => 6
  | .vmem => 13
  | .smem => 0
  | _ => 0

abbrev bufTy : (tb : Table) → Fin (tcTables nBuf tb) → BufTy
  | .hbm, ⟨0, _⟩ => ⟨S112x8192, .f32⟩
  | .hbm, ⟨1, _⟩ => ⟨S8192, .f32⟩
  | .hbm, ⟨2, _⟩ => ⟨S1024x14848, .i32⟩
  | .hbm, ⟨3, _⟩ => ⟨S64x14848, .bf16⟩
  | .hbm, ⟨4, _⟩ => ⟨S1x8192, .f32⟩
  | .hbm, ⟨5, _⟩ => ⟨S112x7424, .bf16⟩
  | .local _ .vmem, ⟨0, _⟩ => ⟨S112x8192, .f32⟩
  | .local _ .vmem, ⟨1, _⟩ => ⟨S1x8192, .f32⟩
  | .local _ .vmem, ⟨2, _⟩ => ⟨S1024x256, .i32⟩
  | .local _ .vmem, ⟨3, _⟩ => ⟨S1024x256, .i32⟩
  | .local _ .vmem, ⟨4, _⟩ => ⟨S64x256, .bf16⟩
  | .local _ .vmem, ⟨5, _⟩ => ⟨S64x256, .bf16⟩
  | .local _ .vmem, ⟨6, _⟩ => ⟨S1024x256, .i32⟩
  | .local _ .vmem, ⟨7, _⟩ => ⟨S1024x256, .i32⟩
  | .local _ .vmem, ⟨8, _⟩ => ⟨S64x256, .bf16⟩
  | .local _ .vmem, ⟨9, _⟩ => ⟨S64x256, .bf16⟩
  | .local _ .vmem, ⟨10, _⟩ => ⟨S112x256, .bf16⟩
  | .local _ .vmem, ⟨11, _⟩ => ⟨S112x256, .bf16⟩
  | .local _ .vmem, ⟨12, _⟩ => ⟨S112x8192, .bf16⟩
  | _, _ => ⟨S112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c29_i32 : BitVec 32 := 29#32
  let v0 : BitVec 32 := Scalar.addi arg0 c29_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c29_i32 : BitVec 32 := 29#32
  let v0 : BitVec 32 := Scalar.addi arg0 c29_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S112x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GuRefIdeal.lean ====
abbrev S112x8192 : Shape := ⟨2, ![112, 8192]⟩
abbrev S8192 : Shape := ⟨1, ![8192]⟩
abbrev S1024x14848 : Shape := ⟨2, ![1024, 14848]⟩
abbrev S64x14848 : Shape := ⟨2, ![64, 14848]⟩
abbrev S_ : Shape := ⟨0, ![]⟩
abbrev S112 : Shape := ⟨1, ![112]⟩
abbrev S112x1 : Shape := ⟨2, ![112, 1]⟩
abbrev S1x8192 : Shape := ⟨2, ![1, 8192]⟩
abbrev S64x16x14848 : Shape := ⟨3, ![64, 16, 14848]⟩
abbrev S64x1x14848 : Shape := ⟨3, ![64, 1, 14848]⟩
abbrev S112x1024 : Shape := ⟨2, ![112, 1024]⟩
abbrev S112x14848 : Shape := ⟨2, ![112, 14848]⟩
abbrev S112x7424 : Shape := ⟨2, ![112, 7424]⟩

abbrev nBuf : Space → Nat
  | .hbm => 177
  | .vmem => 0
  | .smem => 0
  | _ => 0

abbrev hbmTy0_0 (i : Nat) : BufTy := match i % 128 with
  | 0 => ⟨S112x8192, .f32⟩
  | 1 => ⟨S8192, .f32⟩
  | 2 => ⟨S1024x14848, .i32⟩
  | 3 => ⟨S64x14848, .bf16⟩
  | 4 => ⟨S112x8192, .f32⟩
  | 5 => ⟨S_, .f32⟩
  | 6 => ⟨S112, .f32⟩
  | 7 => ⟨S112x1, .f32⟩
  | 8 => ⟨S_, .f32⟩
  | 9 => ⟨S112x1, .f32⟩
  | 10 => ⟨S112x1, .f32⟩
  | 11 => ⟨S_, .f32⟩
  | 12 => ⟨S112x1, .f32⟩
  | 13 => ⟨S112x1, .f32⟩
  | 14 => ⟨S112x1, .f32⟩
  | 15 => ⟨S112x8192, .f32⟩
  | 16 => ⟨S112x8192, .f32⟩
  | 17 => ⟨S1x8192, .f32⟩
  | 18 => ⟨S112x8192, .f32⟩
  | 19 => ⟨S112x8192, .f32⟩
  | 20 => ⟨S112x8192, .bf16⟩
  | 21 => ⟨S_, .i32⟩
  | 22 => ⟨S1024x14848, .i32⟩
  | 23 => ⟨S1024x14848, .i32⟩
  | 24 => ⟨S_, .i32⟩
  | 25 => ⟨S1024x14848, .i32⟩
  | 26 => ⟨S1024x14848, .i32⟩
  | 27 => ⟨S_, .i32⟩
  | 28 => ⟨S1024x14848, .i32⟩
  | 29 => ⟨S1024x14848, .i32⟩
  | 30 => ⟨S1024x14848, .bf16⟩
  | 31 => ⟨S64x16x14848, .bf16⟩
  | 32 => ⟨S64x1x14848, .bf16⟩
  | 33 => ⟨S64x16x14848, .bf16⟩
  | 34 => ⟨S64x16x14848, .bf16⟩
  | 35 => ⟨S1024x14848, .bf16⟩
  | 36 => ⟨S112x1024, .bf16⟩
  | 37 => ⟨S112x14848, .f32⟩
  | 38 => ⟨S_, .i32⟩
  | 39 => ⟨S1024x14848, .i32⟩
  | 40 => ⟨S1024x14848, .i32⟩
  | 41 => ⟨S_, .i32⟩
  | 42 => ⟨S1024x14848, .i32⟩
  | 43 => ⟨S1024x14848, .i32⟩
  | 44 => ⟨S_, .i32⟩
  | 45 => ⟨S1024x14848, .i32⟩
  | 46 => ⟨S1024x14848, .i32⟩
  | 47 => ⟨S1024x14848, .bf16⟩
  | 48 => ⟨S64x16x14848, .bf16⟩
  | 49 => ⟨S64x1x14848, .bf16⟩
  | 50 => ⟨S64x16x14848, .bf16⟩
  | 51 => ⟨S64x16x14848, .bf16⟩
  | 52 => ⟨S1024x14848, .bf16⟩
  | 53 => ⟨S112x1024, .bf16⟩
  | 54 => ⟨S112x14848, .f32⟩
  | 55 => ⟨S112x14848, .f32⟩
  | 56 => ⟨S_, .i32⟩
  | 57 => ⟨S1024x14848, .i32⟩
  | 58 => ⟨S1024x14848, .i32⟩
  | 59 => ⟨S_, .i32⟩
  | 60 => ⟨S1024x14848, .i32⟩
  | 61 => ⟨S1024x14848, .i32⟩
  | 62 => ⟨S_, .i32⟩
  | 63 => ⟨S1024x14848, .i32⟩
  | 64 => ⟨S1024x14848, .i32⟩
  | 65 => ⟨S1024x14848, .bf16⟩
  | 66 => ⟨S64x16x14848, .bf16⟩
  | 67 => ⟨S64x1x14848, .bf16⟩
  | 68 => ⟨S64x16x14848, .bf16⟩
  | 69 => ⟨S64x16x14848, .bf16⟩
  | 70 => ⟨S1024x14848, .bf16⟩
  | 71 => ⟨S112x1024, .bf16⟩
  | 72 => ⟨S112x14848, .f32⟩
  | 73 => ⟨S112x14848, .f32⟩
  | 74 => ⟨S_, .i32⟩
  | 75 => ⟨S1024x14848, .i32⟩
  | 76 => ⟨S1024x14848, .i32⟩
  | 77 => ⟨S_, .i32⟩
  | 78 => ⟨S1024x14848, .i32⟩
  | 79 => ⟨S1024x14848, .i32⟩
  | 80 => ⟨S_, .i32⟩
  | 81 => ⟨S1024x14848, .i32⟩
  | 82 => ⟨S1024x14848, .i32⟩
  | 83 => ⟨S1024x14848, .bf16⟩
  | 84 => ⟨S64x16x14848, .bf16⟩
  | 85 => ⟨S64x1x14848, .bf16⟩
  | 86 => ⟨S64x16x14848, .bf16⟩
  | 87 => ⟨S64x16x14848, .bf16⟩
  | 88 => ⟨S1024x14848, .bf16⟩
  | 89 => ⟨S112x1024, .bf16⟩
  | 90 => ⟨S112x14848, .f32⟩
  | 91 => ⟨S112x14848, .f32⟩
  | 92 => ⟨S_, .i32⟩
  | 93 => ⟨S1024x14848, .i32⟩
  | 94 => ⟨S1024x14848, .i32⟩
  | 95 => ⟨S_, .i32⟩
  | 96 => ⟨S1024x14848, .i32⟩
  | 97 => ⟨S1024x14848, .i32⟩
  | 98 => ⟨S_, .i32⟩
  | 99 => ⟨S1024x14848, .i32⟩
  | 100 => ⟨S1024x14848, .i32⟩
  | 101 => ⟨S1024x14848, .bf16⟩
  | 102 => ⟨S64x16x14848, .bf16⟩
  | 103 => ⟨S64x1x14848, .bf16⟩
  | 104 => ⟨S64x16x14848, .bf16⟩
  | 105 => ⟨S64x16x14848, .bf16⟩
  | 106 => ⟨S1024x14848, .bf16⟩
  | 107 => ⟨S112x1024, .bf16⟩
  | 108 => ⟨S112x14848, .f32⟩
  | 109 => ⟨S112x14848, .f32⟩
  | 110 => ⟨S_, .i32⟩
  | 111 => ⟨S1024x14848, .i32⟩
  | 112 => ⟨S1024x14848, .i32⟩
  | 113 => ⟨S_, .i32⟩
  | 114 => ⟨S1024x14848, .i32⟩
  | 115 => ⟨S1024x14848, .i32⟩
  | 116 => ⟨S_, .i32⟩
  | 117 => ⟨S1024x14848, .i32⟩
  | 118 => ⟨S1024x14848, .i32⟩
  | 119 => ⟨S1024x14848, .bf16⟩
  | 120 => ⟨S64x16x14848, .bf16⟩
  | 121 => ⟨S64x1x14848, .bf16⟩
  | 122 => ⟨S64x16x14848, .bf16⟩
  | 123 => ⟨S64x16x14848, .bf16⟩
  | 124 => ⟨S1024x14848, .bf16⟩
  | 125 => ⟨S112x1024, .bf16⟩
  | 126 => ⟨S112x14848, .f32⟩
  | 127 => ⟨S112x14848, .f32⟩
  | _ => ⟨S112x8192, .f32⟩

abbrev hbmTy0_1 (i : Nat) : BufTy := match i % 128 with
  | 0 => ⟨S_, .i32⟩
  | 1 => ⟨S1024x14848, .i32⟩
  | 2 => ⟨S1024x14848, .i32⟩
  | 3 => ⟨S_, .i32⟩
  | 4 => ⟨S1024x14848, .i32⟩
  | 5 => ⟨S1024x14848, .i32⟩
  | 6 => ⟨S_, .i32⟩
  | 7 => ⟨S1024x14848, .i32⟩
  | 8 => ⟨S1024x14848, .i32⟩
  | 9 => ⟨S1024x14848, .bf16⟩
  | 10 => ⟨S64x16x14848, .bf16⟩
  | 11 => ⟨S64x1x14848, .bf16⟩
  | 12 => ⟨S64x16x14848, .bf16⟩
  | 13 => ⟨S64x16x14848, .bf16⟩
  | 14 => ⟨S1024x14848, .bf16⟩
  | 15 => ⟨S112x1024, .bf16⟩
  | 16 => ⟨S112x14848, .f32⟩
  | 17 => ⟨S112x14848, .f32⟩
  | 18 => ⟨S_, .i32⟩
  | 19 => ⟨S1024x14848, .i32⟩
  | 20 => ⟨S1024x14848, .i32⟩
  | 21 => ⟨S_, .i32⟩
  | 22 => ⟨S1024x14848, .i32⟩
  | 23 => ⟨S1024x14848, .i32⟩
  | 24 => ⟨S_, .i32⟩
  | 25 => ⟨S1024x14848, .i32⟩
  | 26 => ⟨S1024x14848, .i32⟩
  | 27 => ⟨S1024x14848, .bf16⟩
  | 28 => ⟨S64x16x14848, .bf16⟩
  | 29 => ⟨S64x1x14848, .bf16⟩
  | 30 => ⟨S64x16x14848, .bf16⟩
  | 31 => ⟨S64x16x14848, .bf16⟩
  | 32 => ⟨S1024x14848, .bf16⟩
  | 33 => ⟨S112x1024, .bf16⟩
  | 34 => ⟨S112x14848, .f32⟩
  | 35 => ⟨S112x14848, .f32⟩
  | 36 => ⟨S112x7424, .f32⟩
  | 37 => ⟨S112x7424, .f32⟩
  | 38 => ⟨S112x7424, .f32⟩
  | 39 => ⟨S_, .f32⟩
  | 40 => ⟨S112x7424, .f32⟩
  | 41 => ⟨S112x7424, .f32⟩
  | 42 => ⟨S_, .f32⟩
  | 43 => ⟨S112x7424, .f32⟩
  | 44 => ⟨S112x7424, .f32⟩
  | 45 => ⟨S112x7424, .f32⟩
  | 46 => ⟨S112x7424, .f32⟩
  | 47 => ⟨S112x7424, .f32⟩
  | 48 => ⟨S112x7424, .bf16⟩
  | _ => ⟨S112x8192, .f32⟩

abbrev hbmTy (i : Nat) : BufTy := match i / 128 with
  | 0 => hbmTy0_0 i
  | 1 => hbmTy0_1 i
  | _ => ⟨S112x8192, .f32⟩

abbrev bufTy : (tb : Table) → Fin (tcTables nBuf tb) → BufTy
  | .hbm, ⟨i, _⟩ => hbmTy i
  | _, _ => ⟨S112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_10 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_13 : Ref sig .tc := ⟨.hbm, 92, rfl⟩
abbrev main_v73 : Ref sig .tc := ⟨.hbm, 93, rfl⟩
abbrev main_v74 : Ref sig .tc := ⟨.hbm, 94, rfl⟩
abbrev main_c_14 : Ref sig .tc := ⟨.hbm, 95, rfl⟩
abbrev main_v75 : Ref sig .tc := ⟨.hbm, 96, rfl⟩
abbrev main_v76 : Ref sig .tc := ⟨.hbm, 97, rfl⟩
abbrev main_c_15 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_16 : Ref sig .tc := ⟨.hbm, 110, rfl⟩
abbrev main_v88 : Ref sig .tc := ⟨.hbm, 111, rfl⟩
abbrev main_v89 : Ref sig .tc := ⟨.hbm, 112, rfl⟩
abbrev main_c_17 : Ref sig .tc := ⟨.hbm, 113, rfl⟩
abbrev main_v90 : Ref sig .tc := ⟨.hbm, 114, rfl⟩
abbrev main_v91 : Ref sig .tc := ⟨.hbm, 115, rfl⟩
abbrev main_c_18 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_19 : Ref sig .tc := ⟨.hbm, 128, rfl⟩
abbrev main_v103 : Ref sig .tc := ⟨.hbm, 129, rfl⟩
abbrev main_v104 : Ref sig .tc := ⟨.hbm, 130, rfl⟩
abbrev main_c_20 : Ref sig .tc := ⟨.hbm, 131, rfl⟩
abbrev main_v105 : Ref sig .tc := ⟨.hbm, 132, rfl⟩
abbrev main_v106 : Ref sig .tc := ⟨.hbm, 133, rfl⟩
abbrev main_c_21 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_c_22 : Ref sig .tc := ⟨.hbm, 146, rfl⟩
abbrev main_v118 : Ref sig .tc := ⟨.hbm, 147, rfl⟩
abbrev main_v119 : Ref sig .tc := ⟨.hbm, 148, rfl⟩
abbrev main_c_23 : Ref sig .tc := ⟨.hbm, 149, rfl⟩
abbrev main_v120 : Ref sig .tc := ⟨.hbm, 150, rfl⟩
abbrev main_v121 : Ref sig .tc := ⟨.hbm, 151, rfl⟩
abbrev main_c_24 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_call0_v0 : Ref sig .tc := ⟨.hbm, 165, rfl⟩
abbrev main_call0_v1 : Ref sig .tc := ⟨.hbm, 166, rfl⟩
abbrev main_call0_cst : Ref sig .tc := ⟨.hbm, 167, rfl⟩
abbrev main_call0_v2 : Ref sig .tc := ⟨.hbm, 168, rfl⟩
abbrev main_call0_v3 : Ref sig .tc := ⟨.hbm, 169, rfl⟩
abbrev main_call0_cst_0 : Ref sig .tc := ⟨.hbm, 170, rfl⟩
abbrev main_call0_v4 : Ref sig .tc := ⟨.hbm, 171, rfl⟩
abbrev main_call0_v5 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]
-- ==== Down.lean ====
abbrev S112x7424 : Shape := ⟨2, ![112, 7424]⟩
abbrev S112x8192 : Shape := ⟨2, ![112, 8192]⟩
abbrev S928x8192 : Shape := ⟨2, ![928, 8192]⟩
abbrev S58x8192 : Shape := ⟨2, ![58, 8192]⟩
abbrev S112x512 : Shape := ⟨2, ![112, 512]⟩
abbrev S928x512 : Shape := ⟨2, ![928, 512]⟩
abbrev S58x512 : Shape := ⟨2, ![58, 512]⟩
abbrev S928x8x512 : Shape := ⟨3, ![928, 8, 512]⟩
abbrev S928x1x512 : Shape := ⟨3, ![928, 1, 512]⟩
abbrev S7424x512 : Shape := ⟨2, ![7424, 512]⟩
abbrev S58x128x512 : Shape := ⟨3, ![58, 128, 512]⟩
abbrev S58x1x512 : Shape := ⟨3, ![58, 1, 512]⟩

abbrev nBuf : Space → Nat
  | .hbm => 5
  | .vmem => 9
  | .smem => 0
  | _ => 0

abbrev bufTy : (tb : Table) → Fin (tcTables nBuf tb) → BufTy
  | .hbm, ⟨0, _⟩ => ⟨S112x7424, .bf16⟩
  | .hbm, ⟨1, _⟩ => ⟨S112x8192, .f32⟩
  | .hbm, ⟨2, _⟩ => ⟨S928x8192, .i32⟩
  | .hbm, ⟨3, _⟩ => ⟨S58x8192, .bf16⟩
  | .hbm, ⟨4, _⟩ => ⟨S112x8192, .bf16⟩
  | .local _ .vmem, ⟨0, _⟩ => ⟨S112x7424, .bf16⟩
  | .local _ .vmem, ⟨1, _⟩ => ⟨S112x512, .f32⟩
  | .local _ .vmem, ⟨2, _⟩ => ⟨S112x512, .f32⟩
  | .local _ .vmem, ⟨3, _⟩ => ⟨S928x512, .i32⟩
  | .local _ .vmem, ⟨4, _⟩ => ⟨S928x512, .i32⟩
  | .local _ .vmem, ⟨5, _⟩ => ⟨S58x512, .bf16⟩
  | .local _ .vmem, ⟨6, _⟩ => ⟨S58x512, .bf16⟩
  | .local _ .vmem, ⟨7, _⟩ => ⟨S112x512, .bf16⟩
  | .local _ .vmem, ⟨8, _⟩ => ⟨S112x512, .bf16⟩
  | _, _ => ⟨S112x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S112x7424 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S928x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S58x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S112x7424 : Shape := ⟨2, ![112, 7424]⟩
abbrev S112x8192 : Shape := ⟨2, ![112, 8192]⟩
abbrev S928x8192 : Shape := ⟨2, ![928, 8192]⟩
abbrev S58x8192 : Shape := ⟨2, ![58, 8192]⟩
abbrev S_ : Shape := ⟨0, ![]⟩
abbrev S58x16x8192 : Shape := ⟨3, ![58, 16, 8192]⟩
abbrev S58x1x8192 : Shape := ⟨3, ![58, 1, 8192]⟩
abbrev S112x928 : Shape := ⟨2, ![112, 928]⟩

abbrev nBuf : Space → Nat
  | .hbm => 149
  | .vmem => 0
  | .smem => 0
  | _ => 0

abbrev hbmTy0_0 (i : Nat) : BufTy := match i % 128 with
  | 0 => ⟨S112x7424, .bf16⟩
  | 1 => ⟨S112x8192, .f32⟩
  | 2 => ⟨S928x8192, .i32⟩
  | 3 => ⟨S58x8192, .bf16⟩
  | 4 => ⟨S_, .i32⟩
  | 5 => ⟨S928x8192, .i32⟩
  | 6 => ⟨S928x8192, .i32⟩
  | 7 => ⟨S_, .i32⟩
  | 8 => ⟨S928x8192, .i32⟩
  | 9 => ⟨S928x8192, .i32⟩
  | 10 => ⟨S_, .i32⟩
  | 11 => ⟨S928x8192, .i32⟩
  | 12 => ⟨S928x8192, .i32⟩
  | 13 => ⟨S928x8192, .bf16⟩
  | 14 => ⟨S58x16x8192, .bf16⟩
  | 15 => ⟨S58x1x8192, .bf16⟩
  | 16 => ⟨S58x16x8192, .bf16⟩
  | 17 => ⟨S58x16x8192, .bf16⟩
  | 18 => ⟨S928x8192, .bf16⟩
  | 19 => ⟨S112x928, .bf16⟩
  | 20 => ⟨S112x8192, .f32⟩
  | 21 => ⟨S_, .i32⟩
  | 22 => ⟨S928x8192, .i32⟩
  | 23 => ⟨S928x8192, .i32⟩
  | 24 => ⟨S_, .i32⟩
  | 25 => ⟨S928x8192, .i32⟩
  | 26 => ⟨S928x8192, .i32⟩
  | 27 => ⟨S_, .i32⟩
  | 28 => ⟨S928x8192, .i32⟩
  | 29 => ⟨S928x8192, .i32⟩
  | 30 => ⟨S928x8192, .bf16⟩
  | 31 => ⟨S58x16x8192, .bf16⟩
  | 32 => ⟨S58x1x8192, .bf16⟩
  | 33 => ⟨S58x16x8192, .bf16⟩
  | 34 => ⟨S58x16x8192, .bf16⟩
  | 35 => ⟨S928x8192, .bf16⟩
  | 36 => ⟨S112x928, .bf16⟩
  | 37 => ⟨S112x8192, .f32⟩
  | 38 => ⟨S112x8192, .f32⟩
  | 39 => ⟨S_, .i32⟩
  | 40 => ⟨S928x8192, .i32⟩
  | 41 => ⟨S928x8192, .i32⟩
  | 42 => ⟨S_, .i32⟩
  | 43 => ⟨S928x8192, .i32⟩
  | 44 => ⟨S928x8192, .i32⟩
  | 45 => ⟨S_, .i32⟩
  | 46 => ⟨S928x8192, .i32⟩
  | 47 => ⟨S928x8192, .i32⟩
  | 48 => ⟨S928x8192, .bf16⟩
  | 49 => ⟨S58x16x8192, .bf16⟩
  | 50 => ⟨S58x1x8192, .bf16⟩
  | 51 => ⟨S58x16x8192, .bf16⟩
  | 52 => ⟨S58x16x8192, .bf16⟩
  | 53 => ⟨S928x8192, .bf16⟩
  | 54 => ⟨S112x928, .bf16⟩
  | 55 => ⟨S112x8192, .f32⟩
  | 56 => ⟨S112x8192, .f32⟩
  | 57 => ⟨S_, .i32⟩
  | 58 => ⟨S928x8192, .i32⟩
  | 59 => ⟨S928x8192, .i32⟩
  | 60 => ⟨S_, .i32⟩
  | 61 => ⟨S928x8192, .i32⟩
  | 62 => ⟨S928x8192, .i32⟩
  | 63 => ⟨S_, .i32⟩
  | 64 => ⟨S928x8192, .i32⟩
  | 65 => ⟨S928x8192, .i32⟩
  | 66 => ⟨S928x8192, .bf16⟩
  | 67 => ⟨S58x16x8192, .bf16⟩
  | 68 => ⟨S58x1x8192, .bf16⟩
  | 69 => ⟨S58x16x8192, .bf16⟩
  | 70 => ⟨S58x16x8192, .bf16⟩
  | 71 => ⟨S928x8192, .bf16⟩
  | 72 => ⟨S112x928, .bf16⟩
  | 73 => ⟨S112x8192, .f32⟩
  | 74 => ⟨S112x8192, .f32⟩
  | 75 => ⟨S_, .i32⟩
  | 76 => ⟨S928x8192, .i32⟩
  | 77 => ⟨S928x8192, .i32⟩
  | 78 => ⟨S_, .i32⟩
  | 79 => ⟨S928x8192, .i32⟩
  | 80 => ⟨S928x8192, .i32⟩
  | 81 => ⟨S_, .i32⟩
  | 82 => ⟨S928x8192, .i32⟩
  | 83 => ⟨S928x8192, .i32⟩
  | 84 => ⟨S928x8192, .bf16⟩
  | 85 => ⟨S58x16x8192, .bf16⟩
  | 86 => ⟨S58x1x8192, .bf16⟩
  | 87 => ⟨S58x16x8192, .bf16⟩
  | 88 => ⟨S58x16x8192, .bf16⟩
  | 89 => ⟨S928x8192, .bf16⟩
  | 90 => ⟨S112x928, .bf16⟩
  | 91 => ⟨S112x8192, .f32⟩
  | 92 => ⟨S112x8192, .f32⟩
  | 93 => ⟨S_, .i32⟩
  | 94 => ⟨S928x8192, .i32⟩
  | 95 => ⟨S928x8192, .i32⟩
  | 96 => ⟨S_, .i32⟩
  | 97 => ⟨S928x8192, .i32⟩
  | 98 => ⟨S928x8192, .i32⟩
  | 99 => ⟨S_, .i32⟩
  | 100 => ⟨S928x8192, .i32⟩
  | 101 => ⟨S928x8192, .i32⟩
  | 102 => ⟨S928x8192, .bf16⟩
  | 103 => ⟨S58x16x8192, .bf16⟩
  | 104 => ⟨S58x1x8192, .bf16⟩
  | 105 => ⟨S58x16x8192, .bf16⟩
  | 106 => ⟨S58x16x8192, .bf16⟩
  | 107 => ⟨S928x8192, .bf16⟩
  | 108 => ⟨S112x928, .bf16⟩
  | 109 => ⟨S112x8192, .f32⟩
  | 110 => ⟨S112x8192, .f32⟩
  | 111 => ⟨S_, .i32⟩
  | 112 => ⟨S928x8192, .i32⟩
  | 113 => ⟨S928x8192, .i32⟩
  | 114 => ⟨S_, .i32⟩
  | 115 => ⟨S928x8192, .i32⟩
  | 116 => ⟨S928x8192, .i32⟩
  | 117 => ⟨S_, .i32⟩
  | 118 => ⟨S928x8192, .i32⟩
  | 119 => ⟨S928x8192, .i32⟩
  | 120 => ⟨S928x8192, .bf16⟩
  | 121 => ⟨S58x16x8192, .bf16⟩
  | 122 => ⟨S58x1x8192, .bf16⟩
  | 123 => ⟨S58x16x8192, .bf16⟩
  | 124 => ⟨S58x16x8192, .bf16⟩
  | 125 => ⟨S928x8192, .bf16⟩
  | 126 => ⟨S112x928, .bf16⟩
  | 127 => ⟨S112x8192, .f32⟩
  | _ => ⟨S112x7424, .bf16⟩

abbrev hbmTy0_1 (i : Nat) : BufTy := match i % 128 with
  | 0 => ⟨S112x8192, .f32⟩
  | 1 => ⟨S_, .i32⟩
  | 2 => ⟨S928x8192, .i32⟩
  | 3 => ⟨S928x8192, .i32⟩
  | 4 => ⟨S_, .i32⟩
  | 5 => ⟨S928x8192, .i32⟩
  | 6 => ⟨S928x8192, .i32⟩
  | 7 => ⟨S_, .i32⟩
  | 8 => ⟨S928x8192, .i32⟩
  | 9 => ⟨S928x8192, .i32⟩
  | 10 => ⟨S928x8192, .bf16⟩
  | 11 => ⟨S58x16x8192, .bf16⟩
  | 12 => ⟨S58x1x8192, .bf16⟩
  | 13 => ⟨S58x16x8192, .bf16⟩
  | 14 => ⟨S58x16x8192, .bf16⟩
  | 15 => ⟨S928x8192, .bf16⟩
  | 16 => ⟨S112x928, .bf16⟩
  | 17 => ⟨S112x8192, .f32⟩
  | 18 => ⟨S112x8192, .f32⟩
  | 19 => ⟨S112x8192, .f32⟩
  | 20 => ⟨S112x8192, .bf16⟩
  | _ => ⟨S112x7424, .bf16⟩

abbrev hbmTy (i : Nat) : BufTy := match i / 128 with
  | 0 => hbmTy0_0 i
  | 1 => hbmTy0_1 i
  | _ => ⟨S112x7424, .bf16⟩

abbrev bufTy : (tb : Table) → Fin (tcTables nBuf tb) → BufTy
  | .hbm, ⟨i, _⟩ => hbmTy i
  | _, _ => ⟨S112x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_c_12 : Ref sig .tc := ⟨.hbm, 78, rfl⟩
abbrev main_v61 : Ref sig .tc := ⟨.hbm, 79, rfl⟩
abbrev main_v62 : Ref sig .tc := ⟨.hbm, 80, rfl⟩
abbrev main_c_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_14 : Ref sig .tc := ⟨.hbm, 93, rfl⟩
abbrev main_v74 : Ref sig .tc := ⟨.hbm, 94, rfl⟩
abbrev main_v75 : Ref sig .tc := ⟨.hbm, 95, rfl⟩
abbrev main_c_15 : Ref sig .tc := ⟨.hbm, 96, rfl⟩
abbrev main_v76 : Ref sig .tc := ⟨.hbm, 97, rfl⟩
abbrev main_v77 : Ref sig .tc := ⟨.hbm, 98, rfl⟩
abbrev main_c_16 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_c_17 : Ref sig .tc := ⟨.hbm, 111, rfl⟩
abbrev main_v89 : Ref sig .tc := ⟨.hbm, 112, rfl⟩
abbrev main_v90 : Ref sig .tc := ⟨.hbm, 113, rfl⟩
abbrev main_c_18 : Ref sig .tc := ⟨.hbm, 114, rfl⟩
abbrev main_v91 : Ref sig .tc := ⟨.hbm, 115, rfl⟩
abbrev main_v92 : Ref sig .tc := ⟨.hbm, 116, rfl⟩
abbrev main_c_19 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_20 : Ref sig .tc := ⟨.hbm, 129, rfl⟩
abbrev main_v104 : Ref sig .tc := ⟨.hbm, 130, rfl⟩
abbrev main_v105 : Ref sig .tc := ⟨.hbm, 131, rfl⟩
abbrev main_c_21 : Ref sig .tc := ⟨.hbm, 132, rfl⟩
abbrev main_v106 : Ref sig .tc := ⟨.hbm, 133, rfl⟩
abbrev main_v107 : Ref sig .tc := ⟨.hbm, 134, rfl⟩
abbrev main_c_22 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩

abbrev nD : Nat := 1
abbrev τ : Topo := Topo.v7x

variable {F : FTy → Type} [FloatOps F]
-- ==== Proof.QkvBitsRuns.lean ====
module

public import proofs.«01_k».proof.Proof.Gen.Qkv.Frame
public import proofs.«01_k».proof.Proof.Gen.Qkv.Skeleton

@[expose] public section

set_option maxRecDepth 16384

/-!
# The projection kernel's cases, as run on bits

The buffers the lines after the kernel write; the conditions the body branches on, in closed form over the grid points; the staging and scratch buffers by name.
-/

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v11, main_v12, main_v13, main_v14, main_v15, main_v16, main_v17, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from a frame run: for any proof data whose arrays are the region-entry contents (`hA`), a run to
    `RDat.FramePostR` read at the argument arrays — a staged input by the library's
    `RDat.FramePostR.arr_in`, an array no window stages (none is in `T0`) by the post's second clause, each then by `V_…` — is the frame
    claim's post. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_1, k0_cond2, e0]
    word_cmp
   : ∀ t : Fin grid0.N, cond0_1 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S112x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S112x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S112x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S112x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S112x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S112x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S112x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S112x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S112x8192 .bf16 := Memref.whole cc0_scratch0
abbrev scM0_1 : Memref sig .tc .vmem S5x112x512 .f32 := Memref.whole cc0_scratch1
/-- The scratch `arg13` the kernel carries between points, as a view: what it holds is stated through it. -/
abbrev VS0_0 : View sig .tc .vmem S112x8192 .bf16 := scM0_0.view

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Qkv.Gen

end
-- ==== Proof.QkvBitsA.lean ====
module

public import proofs.«01_k».proof.Proof.QkvBitsRuns

@[expose] public section

set_option maxRecDepth 16384

/-!
# The projection kernel's body, as run on bits: case A

The whole-body triple at the first grid point, which normalizes the rows and fills slice 0 of the accumulator.
-/

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the first grid point, which normalizes the rows and fills slice 0 of the accumulator: the pieces each buffer ends with, and the proof that the body leaves exactly those. -/
noncomputable def kernelRun0_A (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) :
    { LS0 : List (View.Piece (Elt F) S112x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ d, owns (c : Thread nD τ) arg14 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_qkv_eq_skeleton]; unfold cc0_qkv_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]; · iexists _; iexact HS0
    iexists _, _; isplitr; swap; · iexact HS1
    ipureintro; rfl

end Cert.Qkv.Gen

end
-- ==== Proof.QkvBitsB.lean ====
module

public import proofs.«01_k».proof.Proof.QkvBitsA

@[expose] public section

set_option maxRecDepth 16384

/-!
# The projection kernel's body, as run on bits: case B

The whole-body triple at grid points 1 to 3, each of which fills its slice of the accumulator.
-/

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at grid points 1 to 3, each of which fills its slice of the accumulator: the pieces each buffer ends with, and the proof that the body leaves exactly those. -/
noncomputable def kernelRun0_B (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) :
    { LS0 : List (View.Piece (Elt F) S112x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_qkv_eq_skeleton]; unfold cc0_qkv_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    iexists _, _; isplitr; swap; · iexact HS1
    ipureintro; rfl

end Cert.Qkv.Gen

end
-- ==== Proof.QkvBitsC.lean ====
module

public import proofs.«01_k».proof.Proof.QkvBitsB

@[expose] public section

set_option maxRecDepth 16384

/-!
# The projection kernel's body, as run on bits: case C

The whole-body triple at the last grid point, which fills slice 4 and then reads every slice to write the outputs.
-/

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the last grid point, which fills slice 4 and then reads every slice to write the outputs: the pieces each buffer ends with, and the proof that the body leaves exactly those. -/
noncomputable def kernelRun0_C (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) :
    { LS0 : List (View.Piece (Elt F) S112x8192 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_qkv_eq_skeleton]; unfold cc0_qkv_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg13.read_unread _
      iexact HS0
    iexists _, _; isplitr; swap; · iexact HS1
    ipureintro; rfl

end Cert.Qkv.Gen

end
-- ==== Proof.QkvBitsFrame.lean ====
module

public import proofs.«01_k».proof.Proof.QkvBitsC
public import Idealize.ShloMosaic.Lib.Claim

@[expose] public section

set_option maxRecDepth 16384

/-!
# The projection kernel's frame, as run on bits

What the outputs hold is not named here; the frame is that the argument arrays end unchanged and every counter at zero.
-/

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 1 piece of `S112x8192` tiling it. -/
theorem scover0_A_0 (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (y : S112x8192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 S112x8192.size (by sl_kernel_rfl) y

/-- What case A leaves in scratch `arg13`: its pieces read back over junk. -/
def sout0_A_0 (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) : Vec F S112x8192 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)

/-- Case B stores nothing into scratch `arg13`: it holds what the point before left. -/
def sout0_B_0 (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) : Vec F S112x8192 .bf16 := xs0

/-- Case C stores nothing into scratch `arg13`: it holds what the point before left. -/
def sout0_C_0 (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) : Vec F S112x8192 .bf16 := xs0

/-! ## What the outputs hold after each point -/

/-- What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S112x8192 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 5 = 0 then
      if h1 : (n + 1) % 5 = 4 then
        False.elim (by have hN : n + 1 < 5 := lt_of_lt_of_eq hn (show cfg0.N = 5 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      if h1 : (n + 1) % 5 = 4 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 5 = 0) (h1 : ¬t.val % 5 = 4) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 5 = 0) (h1 : ¬t.val % 5 = 4) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 5 = 0) (h1 : t.val % 5 = 4) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel carries between points: before the first point the
    class's (`ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows whose contents are not named (7, 8, 9, 10, 11): nothing reads what the kernel leaves in them, so nothing
    of it is named (`Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, forgotten, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, H10, H11, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · exfalso; have hN : t.val < 5 := lt_of_lt_of_eq t.isLt (show cfg0.N = 5 from N_0); omega
  · by_cases h1 : t.val % 5 = 4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 5 := lt_of_lt_of_eq t.isLt (show cfg0.N = 5 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, H10, H11, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 5 := lt_of_lt_of_eq t.isLt (show cfg0.N = 5 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        iintro ⟨H0, H1, H2, H3, H4, H5, H6, H7, H8, H9, H10, H11, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

set_option backward.isDefEq.respectTransparency.types false in
set_option maxHeartbeats 800000 in
/-- `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every input array of the pipeline unchanged, nothing stated of the
    forgotten outputs (windows 7, 8, 9, 10, 11) (`RDat.FramePostR` over the proof data with those windows
    forgotten), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forgotten m ρ (fun c => (dats m 0 c).toRForget forgets0) (A_eq m) (run_main m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Qkv.Gen

end
-- ==== Proof.Codes.lean ====
module

public import Idealize.ShloMosaic.Lib.Pipeline.ValueKit
public import Idealize.ShloMosaic.Lib.Pointwise

@[expose] public section

set_option maxRecDepth 16384

/-!
# The four-bit codes of a packed word, and a sum over packed rows

The weights are four-bit codes, eight to a 32-bit word, the code of row `8 r + j` in bits `4 j … 4 j + 3` of word `r`.
The kernel reads a code as the signed nibble of the word with every nibble's top bit flipped; the reference reads it
as the unsigned nibble less 8. The two agree (`code_eq`). The kernel contracts all rows at once; the reference
contracts the rows of each nibble separately and adds the eight results (`sum_rows`).
-/

noncomputable section
open Idealize.ShloMosaic

namespace Cert.Codes

/-- Code `j` of a word as the kernel reads it: flip each nibble's top bit, shift nibble `j` to the top, shift it back
    down with its sign. -/
def code (w : BitVec 32) (j : ℕ) : BitVec 32 :=
  IntOp.shrsi .vector (IntOp.shli .vector (IntOp.xori w 2290649224#32)
    (IntOp.subi 28#32 (IntOp.muli 4#32 (BitVec.ofNat 32 j)))) 28#32

/-- The signed nibble with its top bit flipped is the unsigned nibble less 8. -/
theorem nibble (n : BitVec 4) : (n ^^^ 8#4).signExtend 32 = n.zeroExtend 32 - 8#32 := by
  revert n; decide

/-- The kernel's word operations on nibble `k / 4` are the sign extension of that nibble, its top bit flipped. -/
theorem kernel_nibble (w : BitVec 32) (k : ℕ) (hk : k = 0 ∨ k = 4 ∨ k = 8 ∨ k = 12 ∨ k = 16 ∨ k = 20 ∨ k = 24 ∨ k = 28) :
    (((w ^^^ 2290649224#32) <<< (28 - k)).sshiftRight 28) = ((w.extractLsb' k 4) ^^^ 8#4).signExtend 32 := by
  rcases hk with rfl | rfl | rfl | rfl | rfl | rfl | rfl | rfl <;>
  · ext i hi
    interval_cases i <;> simp [BitVec.getElem_sshiftRight, BitVec.getElem_signExtend, BitVec.msb_eq_getLsbD_last, BitVec.getLsbD_eq_getElem] <;> rfl

/-- The reference's word operations on nibble `k / 4` are the zero extension of that nibble. -/
theorem ref_nibble (w : BitVec 32) (k : ℕ) (hk : k = 0 ∨ k = 4 ∨ k = 8 ∨ k = 12 ∨ k = 16 ∨ k = 20 ∨ k = 24 ∨ k = 28) :
    (w.sshiftRight k) &&& 15#32 = (w.extractLsb' k 4).zeroExtend 32 := by
  rcases hk with rfl | rfl | rfl | rfl | rfl | rfl | rfl | rfl <;>
  · ext i hi
    interval_cases i <;> simp [BitVec.getElem_sshiftRight, BitVec.getLsbD_eq_getElem]

/-- Code `sh / 4` of a word as the reference reads it: shift the nibble down, mask it, subtract 8. -/
def refCode (w sh : BitVec 32) : BitVec 32 :=
  IntOp.subi (IntOp.andi (IntOp.shrsi .host w sh) 15#32) 8#32

/-- The two readings of a code agree. -/
theorem code_eq (w : BitVec 32) (j : Fin 8) : code w j = refCode w (BitVec.ofNat 32 (4 * j)) := by
  have hk : 4 * (j : ℕ) = 0 ∨ 4 * (j : ℕ) = 4 ∨ 4 * (j : ℕ) = 8 ∨ 4 * (j : ℕ) = 12 ∨ 4 * (j : ℕ) = 16
      ∨ 4 * (j : ℕ) = 20 ∨ 4 * (j : ℕ) = 24 ∨ 4 * (j : ℕ) = 28 := by omega
  have h1 : code w j = (((w ^^^ 2290649224#32) <<< (28 - 4 * (j : ℕ))).sshiftRight 28) := by
    fin_cases j <;> rfl
  have h2 : refCode w (BitVec.ofNat 32 (4 * j)) = ((w.sshiftRight (4 * (j : ℕ))) &&& 15#32) - 8#32 := by
    fin_cases j <;> rfl
  rw [h1, h2, kernel_nibble w _ hk, ref_nibble w _ hk, nibble]

/-- A code as an ideal number. -/
def num (w : BitVec 32) : EReal := FloatOps.sitofp (F := Ideal) .bf16 w

/-- Nibble `j`'s rows of the reference's contraction: its part of the sum. -/
def part {K Kp G : ℕ} (hK : K = 8 * Kp) (hG : K = 128 * G) (a : Fin K → EReal) (w : Fin Kp → BitVec 32)
    (s : Fin G → EReal) (j : Fin 8) : EReal :=
  ∑ r : Fin Kp, a ⟨j + 8 * r, by omega⟩ * (num (refCode (w r) (BitVec.ofNat 32 (4 * j))) * s ⟨r / 16, by omega⟩)

/-- The first nibble's part, its row `0 + 8 r` written `8 r`. -/
theorem part_zero {K Kp G : ℕ} (hK : K = 8 * Kp) (hG : K = 128 * G) (a : Fin K → EReal) (w : Fin Kp → BitVec 32)
    (s : Fin G → EReal) :
    part hK hG a w s 0 = ∑ r : Fin Kp, a ⟨8 * r, by omega⟩ * (num (refCode (w r) 0#32) * s ⟨r / 16, by omega⟩) := by
  refine Finset.sum_congr rfl fun r _ => congrArg₂ (· * ·) (congrArg a (Fin.ext (Nat.zero_add _))) rfl

/-- The contraction over all rows is the sum of the eight contractions over one nibble's rows each, added in order. -/
theorem sum_codes {K Kp G : ℕ} (hK : K = 8 * Kp) (hG : K = 128 * G) (a : Fin K → EReal) (w : Fin Kp → BitVec 32)
    (s : Fin G → EReal) :
    ∑ x : Fin K, a x * (num (code (w ⟨x / 8, by omega⟩) (x % 8)) * s ⟨x / 128, by omega⟩)
      = part hK hG a w s 0 + part hK hG a w s 1 + part hK hG a w s 2 + part hK hG a w s 3 + part hK hG a w s 4
        + part hK hG a w s 5 + part hK hG a w s 6 + part hK hG a w s 7 := by
  have hK' : K = Kp * 8 := by omega
  rw [← Fin.sum_univ_eight (fun j => part hK hG a w s j)]
  subst hK'
  rw [Fin.sum_univ_tiles Kp 8 rfl, Finset.sum_comm]
  refine Finset.sum_congr rfl fun j _ => Finset.sum_congr rfl fun r _ => ?_
  rw [← code_eq]
  have e1 : ((r : ℕ) * 8 + j) / 8 = r := by omega
  have e2 : ((r : ℕ) * 8 + j) % 8 = j := by omega
  have e3 : ((r : ℕ) * 8 + j) / 128 = r / 16 := by omega
  have e4 : (r : ℕ) * 8 + j = j + 8 * r := by omega
  simp only [e1, e2, e3]
  congr 2
  exact Fin.ext e4

end Cert.Codes
end
-- ==== Proof.QkvForms.lean ====
module

public import proofs.«01_k».proof.Proof.Codes

@[expose] public section

/-!
# The query, key and value projections: what is computed, row by row

Both programs' arrays are read at an index down to these functions of one row.
-/

noncomputable section
open Idealize.ShloMosaic

namespace Cert.QkvForms

/-- A row scaled to unit mean square and by the gains, at column `k`. -/
def norm (h g : Fin 8192 → EReal) (k : Fin 8192) : EReal :=
  Ideal.div (h k) (Ideal.sqrt (Ideal.div (∑ x : Fin 8192, h x * h x) (Ideal.ofBits .f32 0x46000000#32)
    + Ideal.ofBits .f32 0x358637BD#32)) * g k

/-- The product of a normalized row with one dequantized column, plus the bias. -/
def proj (h g : Fin 8192 → EReal) (q : Fin 1024 → BitVec 32) (s : Fin 64 → EReal) (b : EReal) : EReal :=
  ∑ k : Fin 8192, norm h g k * (Codes.num (Codes.code (q ⟨k / 8, by omega⟩) (k % 8)) * s ⟨k / 128, by omega⟩) + b

/-- One head, its two halves rotated by the position's angles. -/
def rope (t : Fin 128 → EReal) (c s : Fin 64 → EReal) (j : Fin 128) : EReal :=
  if h : (j : ℕ) < 64 then t j * c ⟨j, h⟩ - t ⟨j + 64, by omega⟩ * s ⟨j, h⟩
  else t j * c ⟨j - 64, by omega⟩ + t ⟨j - 64, by omega⟩ * s ⟨j - 64, by omega⟩

/-- A head's largest magnitude. -/
def amax (t : Fin 128 → EReal) : EReal :=
  Finset.univ.fold max (Ideal.ofBits .f32 0xFF800000#32) fun j => FloatOps.absf (F := Ideal) (φ := .f32) (t j)

/-- A head's quantization step: its largest magnitude over 127, or 1 if that is zero. -/
def scale (t : Fin 128 → EReal) : EReal := if amax t = 0 then 1 else Ideal.div (amax t) (Ideal.ofBits .f32 0x42FE0000#32)

/-- A head's entry in steps, rounded and clipped to [-127, 127]. -/
def code (t : Fin 128 → EReal) (j : Fin 128) : EReal :=
  min (FloatOps.sitofp (F := Ideal) .f32 127#32) (max (FloatOps.sitofp (F := Ideal) .f32 4294967169#32)
    (Ideal.liftRound Ideal.roundHalfEven (Ideal.div (t j) (scale t))))

/-- A code as the eight-bit integer the programs store. -/
def byte (x : EReal) : BitVec 8 := (FloatOps.fptosi (F := Ideal) (φ := .f32) 32 x).truncate 8

section Arrays
variable (x : FVec Ideal ⟨3, ![112, 1, 8192]⟩ .bf16) (g : FVec Ideal ⟨1, ![8192]⟩ .f32) (q : IVec ⟨2, ![1024, 2560]⟩ 32)
  (s : FVec Ideal ⟨2, ![64, 2560]⟩ .bf16) (b : FVec Ideal ⟨1, ![2560]⟩ .f32) (cs sn : FVec Ideal ⟨3, ![112, 1, 64]⟩ .f32)

/-- Head `k` of row `i`: sixteen query heads, two key heads, two value heads. -/
def head (i : Fin 112) (k : ℕ) (h : k < 20) (j : Fin 128) : EReal :=
  proj (fun l => x (ix3 i 0 l)) (fun l => g (ix1 l)) (fun r => q (ix2 r ⟨128 * k + j, by omega⟩))
    (fun r => s (ix2 r ⟨128 * k + j, by omega⟩)) (b (ix1 ⟨128 * k + j, by omega⟩))

/-- Head `k` of row `i`, rotated. -/
def turned (i : Fin 112) (k : ℕ) (h : k < 20) : Fin 128 → EReal :=
  rope (head x g q s b i k h) (fun l => cs (ix3 i 0 l)) (fun l => sn (ix3 i 0 l))

/-- The queries. -/
def queries : FVec Ideal ⟨2, ![112, 2048]⟩ .bf16 := fun y =>
  have h : (y 1 : ℕ) < 2048 := (y 1).isLt
  turned x g q s b cs sn (y 0) ((y 1 : ℕ) / 128) (by omega) ⟨(y 1 : ℕ) % 128, by omega⟩

/-- The keys' codes and steps, -/
def kcodes : IVec ⟨4, ![112, 1, 2, 128]⟩ 8 := fun y =>
  have h : (y 2 : ℕ) < 2 := (y 2).isLt
  byte (code (turned x g q s b cs sn (y 0) (16 + (y 2 : ℕ)) (by omega)) (y 3))
def kscales : FVec Ideal ⟨3, ![112, 1, 2]⟩ .f32 := fun y =>
  have h : (y 2 : ℕ) < 2 := (y 2).isLt
  scale (turned x g q s b cs sn (y 0) (16 + (y 2 : ℕ)) (by omega))

/-- and the values'. -/
def vcodes : IVec ⟨4, ![112, 1, 2, 128]⟩ 8 := fun y =>
  have h : (y 2 : ℕ) < 2 := (y 2).isLt
  byte (code (head x g q s b (y 0) (18 + (y 2 : ℕ)) (by omega)) (y 3))
def vscales : FVec Ideal ⟨3, ![112, 1, 2]⟩ .f32 := fun y =>
  have h : (y 2 : ℕ) < 2 := (y 2).isLt
  scale (head x g q s b (y 0) (18 + (y 2 : ℕ)) (by omega))

end Arrays

end Cert.QkvForms

end

end
-- ==== Proof.QkvKerRuns.lean ====
module

public import proofs.«01_k».proof.Proof.Gen.QkvIdeal.Frame
public import proofs.«01_k».proof.Proof.Gen.QkvIdeal.Skeleton

@[expose] public section

set_option maxRecDepth 16384

/-!
# The projection kernel's cases, over extended reals

The conditions the body branches on, in closed form over the grid points; where an output is left alone; the staging and scratch buffers by name.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_1, k0_cond2, e0]
    word_cmp
   : ∀ t : Fin grid0.N, cond0_1 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel

/-! ## The kernel body on any staging memrefs: a subtype the run finds -/

/-- One staging buffer of output window 7, through which its contents are stated (`View.read_writes_of_cover`: the
    choice does not matter). -/
abbrev VO0_7 : View sig .tc .vmem S112x2048 .bf16 := (Memref.whole cc0_stg7_0 : Memref sig .tc .vmem S112x2048 .bf16).view
/-- One staging buffer of output window 8, through which its contents are stated (`View.read_writes_of_cover`: the
    choice does not matter). -/
abbrev VO0_8 : View sig .tc .vmem S112x256 .f32 := (Memref.whole cc0_stg8_0 : Memref sig .tc .vmem S112x256 .f32).view
/-- One staging buffer of output window 9, through which its contents are stated (`View.read_writes_of_cover`: the
    choice does not matter). -/
abbrev VO0_9 : View sig .tc .vmem S112x256 .f32 := (Memref.whole cc0_stg9_0 : Memref sig .tc .vmem S112x256 .f32).view
/-- One staging buffer of output window 10, through which its contents are stated (`View.read_writes_of_cover`: the
    choice does not matter). -/
abbrev VO0_10 : View sig .tc .vmem S112x256 .f32 := (Memref.whole cc0_stg10_0 : Memref sig .tc .vmem S112x256 .f32).view
/-- One staging buffer of output window 11, through which its contents are stated (`View.read_writes_of_cover`: the
    choice does not matter). -/
abbrev VO0_11 : View sig .tc .vmem S112x256 .f32 := (Memref.whole cc0_stg11_0 : Memref sig .tc .vmem S112x256 .f32).view
/-- Each window's current staging memref at point `t`, spelled as the pipeline passes it (`bodyAt0`), and its wholeness. -/
abbrev ms0_0 (t : Fin cfg0.N) : Memref sig .tc .vmem S112x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S112x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S112x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S112x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S112x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S112x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S112x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S112x256 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S112x8192 .bf16 := Memref.whole cc0_scratch0
abbrev scM0_1 : Memref sig .tc .vmem S5x112x512 .f32 := Memref.whole cc0_scratch1
/-- The scratch `arg13` the kernel carries between points, as a view: what it holds is stated through it. -/
abbrev VS0_0 : View sig .tc .vmem S112x8192 .bf16 := scM0_0.view
/-- The scratch `arg14` the kernel carries between points, as a view: what it holds is stated through it. -/
abbrev VS0_1 : View sig .tc .vmem S5x112x512 .f32 := scM0_1.view

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Gen

end
-- ==== Proof.QkvKerA.lean ====
module

public import proofs.«01_k».proof.Proof.QkvKerRuns

@[expose] public section

set_option maxRecDepth 16384

/-!
# The projection kernel's body, over extended reals: case A

The whole-body triple at the first grid point, which normalizes the rows and fills slice 0 of the accumulator.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the first grid point, which normalizes the rows and fills slice 0 of the accumulator: the pieces each buffer ends with, and the proof that the body leaves exactly those. -/
noncomputable def kernelRun0_A (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) :
    Σ' (L7 : List (View.Piece (Elt F) S112x2048 .bf16)), Σ' (L8 : List (View.Piece (Elt F) S112x256 .f32)), Σ' (L9 : List (View.Piece (Elt F) S112x256 .f32)), Σ' (L10 : List (View.Piece (Elt F) S112x256 .f32)), Σ' (L11 : List (View.Piece (Elt F) S112x256 .f32)), Σ' (LS0 : List (View.Piece (Elt F) S112x8192 .bf16)), { LS1 : List (View.Piece (Elt F) S5x112x512 .f32) //
      ∀ (xi7 : Vec F S112x2048 .bf16) (xi8 : Vec F S112x256 .f32) (xi9 : Vec F S112x256 .f32) (xi10 : Vec F S112x256 .f32) (xi11 : Vec F S112x256 .f32) (xs1 : Vec F S5x112x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ (∃ d, owns (c : Thread nD τ) arg13 fullShare d) ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], [], [], [], ?_, ?_, fun xi7 xi8 xi9 xi10 xi11 xs1 E K => ?run⟩
  case run =>
    simp only [cc0_qkv_eq_skeleton]; unfold cc0_qkv_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexact HS1

end Cert.QkvIdeal.Gen

end
-- ==== Proof.QkvKerB.lean ====
module

public import proofs.«01_k».proof.Proof.QkvKerA

@[expose] public section

set_option maxRecDepth 16384

/-!
# The projection kernel's body, over extended reals: case B

The whole-body triple at grid points 1 to 3, each of which fills its slice of the accumulator.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at grid points 1 to 3, each of which fills its slice of the accumulator: the pieces each buffer ends with, and the proof that the body leaves exactly those. -/
noncomputable def kernelRun0_B (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : ¬cond0_1 i)
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) :
    Σ' (L7 : List (View.Piece (Elt F) S112x2048 .bf16)), Σ' (L8 : List (View.Piece (Elt F) S112x256 .f32)), Σ' (L9 : List (View.Piece (Elt F) S112x256 .f32)), Σ' (L10 : List (View.Piece (Elt F) S112x256 .f32)), Σ' (L11 : List (View.Piece (Elt F) S112x256 .f32)), Σ' (LS0 : List (View.Piece (Elt F) S112x8192 .bf16)), { LS1 : List (View.Piece (Elt F) S5x112x512 .f32) //
      ∀ (xi7 : Vec F S112x2048 .bf16) (xi8 : Vec F S112x256 .f32) (xi9 : Vec F S112x256 .f32) (xi10 : Vec F S112x256 .f32) (xi11 : Vec F S112x256 .f32) (xs1 : Vec F S5x112x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ owns (c : Thread nD τ) arg13 fullShare xs0 ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], [], [], [], [], ?_, fun xi7 xi8 xi9 xi10 xi11 xs1 E K => ?run⟩
  case run =>
    simp only [cc0_qkv_eq_skeleton]; unfold cc0_qkv_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hfs0; obtain rfl := harg14.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg13.read_unread _
      iexact HS0
    iexact HS1

end Cert.QkvIdeal.Gen

end
-- ==== Proof.QkvKerC.lean ====
module

public import proofs.«01_k».proof.Proof.QkvKerB

@[expose] public section

set_option maxRecDepth 16384

/-!
# The projection kernel's body, over extended reals: case C

The whole-body triple at the last grid point, which fills slice 4 and then reads every slice to write the outputs.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the last grid point, which fills slice 4 and then reads every slice to write the outputs: the pieces each buffer ends with, and the proof that the body leaves exactly those. -/
noncomputable def kernelRun0_C (c : Dev nD) (i : grid0.Coords) (arg1 : Memref sig .tc .vmem S112x8192 .bf16) (harg1 : arg1.IsWhole) (arg2 : Memref sig .tc .vmem S1x8192 .f32) (harg2 : arg2.IsWhole) (arg3 : Memref sig .tc .vmem S1024x512 .i32) (harg3 : arg3.IsWhole) (arg4 : Memref sig .tc .vmem S64x512 .bf16) (harg4 : arg4.IsWhole) (arg5 : Memref sig .tc .vmem S1x512 .f32) (harg5 : arg5.IsWhole) (arg6 : Memref sig .tc .vmem S112x64 .f32) (harg6 : arg6.IsWhole) (arg7 : Memref sig .tc .vmem S112x64 .f32) (harg7 : arg7.IsWhole) (arg8 : Memref sig .tc .vmem S112x2048 .bf16) (harg8 : arg8.IsWhole) (arg9 : Memref sig .tc .vmem S112x256 .f32) (harg9 : arg9.IsWhole) (arg10 : Memref sig .tc .vmem S112x256 .f32) (harg10 : arg10.IsWhole) (arg11 : Memref sig .tc .vmem S112x256 .f32) (harg11 : arg11.IsWhole) (arg12 : Memref sig .tc .vmem S112x256 .f32) (harg12 : arg12.IsWhole) (arg13 : Memref sig .tc .vmem S112x8192 .bf16) (harg13 : arg13.IsWhole) (arg14 : Memref sig .tc .vmem S5x112x512 .f32) (harg14 : arg14.IsWhole) (hc0 : ¬cond0_0 i) (hc1 : cond0_1 i) (hl0 : k0_off1 i = ![4, 0, 0])
    (x0 : Vec F S112x8192 .bf16) (x1 : Vec F S1x8192 .f32) (x2 : Vec F S1024x512 .i32) (x3 : Vec F S64x512 .bf16) (x4 : Vec F S1x512 .f32) (x5 : Vec F S112x64 .f32) (x6 : Vec F S112x64 .f32) (xs0 : Vec F S112x8192 .bf16) (ps1_0 : Vec F S1x112x128 .f32) (ps1_1 : Vec F S1x112x128 .f32) (ps1_2 : Vec F S1x112x128 .f32) (ps1_3 : Vec F S1x112x128 .f32) (ps1_4 : Vec F S1x112x128 .f32) (ps1_5 : Vec F S1x112x128 .f32) (ps1_6 : Vec F S1x112x128 .f32) (ps1_7 : Vec F S1x112x128 .f32) (ps1_8 : Vec F S1x112x128 .f32) (ps1_9 : Vec F S1x112x128 .f32) (ps1_10 : Vec F S1x112x128 .f32) (ps1_11 : Vec F S1x112x128 .f32) (ps1_12 : Vec F S1x112x128 .f32) (ps1_13 : Vec F S1x112x128 .f32) (ps1_14 : Vec F S1x112x128 .f32) (ps1_15 : Vec F S1x112x128 .f32) :
    Σ' (L7 : List (View.Piece (Elt F) S112x2048 .bf16)), Σ' (L8 : List (View.Piece (Elt F) S112x256 .f32)), Σ' (L9 : List (View.Piece (Elt F) S112x256 .f32)), Σ' (L10 : List (View.Piece (Elt F) S112x256 .f32)), Σ' (L11 : List (View.Piece (Elt F) S112x256 .f32)), Σ' (LS0 : List (View.Piece (Elt F) S112x8192 .bf16)), { LS1 : List (View.Piece (Elt F) S5x112x512 .f32) //
      ∀ (xs1 : Vec F S5x112x512 .f32) (hps1_0 : View.readAt (Elt F) arg14.view (Rect.unit (s := S5x112x512) ![0, 0, 0] S1x112x128.size inb_S5x112x512_S1x112x128_0_0_0).toLoadRect (harg14.unread xs1) = ps1_0) (hps1_1 : View.readAt (Elt F) arg14.view (Rect.unit (s := S5x112x512) ![0, 0, 128] S1x112x128.size inb_S5x112x512_S1x112x128_0_0_128).toLoadRect (harg14.unread xs1) = ps1_1) (hps1_2 : View.readAt (Elt F) arg14.view (Rect.unit (s := S5x112x512) ![0, 0, 256] S1x112x128.size inb_S5x112x512_S1x112x128_0_0_256).toLoadRect (harg14.unread xs1) = ps1_2) (hps1_3 : View.readAt (Elt F) arg14.view (Rect.unit (s := S5x112x512) ![0, 0, 384] S1x112x128.size inb_S5x112x512_S1x112x128_0_0_384).toLoadRect (harg14.unread xs1) = ps1_3) (hps1_4 : View.readAt (Elt F) arg14.view (Rect.unit (s := S5x112x512) ![1, 0, 0] S1x112x128.size inb_S5x112x512_S1x112x128_1_0_0).toLoadRect (harg14.unread xs1) = ps1_4) (hps1_5 : View.readAt (Elt F) arg14.view (Rect.unit (s := S5x112x512) ![1, 0, 128] S1x112x128.size inb_S5x112x512_S1x112x128_1_0_128).toLoadRect (harg14.unread xs1) = ps1_5) (hps1_6 : View.readAt (Elt F) arg14.view (Rect.unit (s := S5x112x512) ![1, 0, 256] S1x112x128.size inb_S5x112x512_S1x112x128_1_0_256).toLoadRect (harg14.unread xs1) = ps1_6) (hps1_7 : View.readAt (Elt F) arg14.view (Rect.unit (s := S5x112x512) ![1, 0, 384] S1x112x128.size inb_S5x112x512_S1x112x128_1_0_384).toLoadRect (harg14.unread xs1) = ps1_7) (hps1_8 : View.readAt (Elt F) arg14.view (Rect.unit (s := S5x112x512) ![2, 0, 0] S1x112x128.size inb_S5x112x512_S1x112x128_2_0_0).toLoadRect (harg14.unread xs1) = ps1_8) (hps1_9 : View.readAt (Elt F) arg14.view (Rect.unit (s := S5x112x512) ![2, 0, 128] S1x112x128.size inb_S5x112x512_S1x112x128_2_0_128).toLoadRect (harg14.unread xs1) = ps1_9) (hps1_10 : View.readAt (Elt F) arg14.view (Rect.unit (s := S5x112x512) ![2, 0, 256] S1x112x128.size inb_S5x112x512_S1x112x128_2_0_256).toLoadRect (harg14.unread xs1) = ps1_10) (hps1_11 : View.readAt (Elt F) arg14.view (Rect.unit (s := S5x112x512) ![2, 0, 384] S1x112x128.size inb_S5x112x512_S1x112x128_2_0_384).toLoadRect (harg14.unread xs1) = ps1_11) (hps1_12 : View.readAt (Elt F) arg14.view (Rect.unit (s := S5x112x512) ![3, 0, 0] S1x112x128.size inb_S5x112x512_S1x112x128_3_0_0).toLoadRect (harg14.unread xs1) = ps1_12) (hps1_13 : View.readAt (Elt F) arg14.view (Rect.unit (s := S5x112x512) ![3, 0, 128] S1x112x128.size inb_S5x112x512_S1x112x128_3_0_128).toLoadRect (harg14.unread xs1) = ps1_13) (hps1_14 : View.readAt (Elt F) arg14.view (Rect.unit (s := S5x112x512) ![3, 0, 256] S1x112x128.size inb_S5x112x512_S1x112x128_3_0_256).toLoadRect (harg14.unread xs1) = ps1_14) (hps1_15 : View.readAt (Elt F) arg14.view (Rect.unit (s := S5x112x512) ![3, 0, 384] S1x112x128.size inb_S5x112x512_S1x112x128_3_0_384).toLoadRect (harg14.unread xs1) = ps1_15) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs0 ∗ (arg14.view.loc (c : Thread nD τ) ↦[arg14.view.set]{fullShare} arg14.view.writes (Elt F) (harg14.unread xs1) LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, [], ?_, fun xs1 hps1_0 hps1_1 hps1_2 hps1_3 hps1_4 hps1_5 hps1_6 hps1_7 hps1_8 hps1_9 hps1_10 hps1_11 hps1_12 hps1_13 hps1_14 hps1_15 E K => ?run⟩
  case run =>
    letI : ClosedOff (k0_off1 i) := ⟨![4, 0, 0], hl0⟩
    simp only [cc0_qkv_eq_skeleton]; unfold cc0_qkv_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs0; obtain rfl := harg14.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]
    · iexists _; isplitr; · ipureintro; exact harg13.read_unread _
      iexact HS0
    iexact HS1

end Cert.QkvIdeal.Gen

end
-- ==== Proof.QkvKerPieces.lean ====
module

public import proofs.«01_k».proof.Proof.QkvKerC
public import Idealize.ShloMosaic.Lib.Claim
public import Idealize.ShloMosaic.Lib.Pipeline.ReadBack
public import Idealize.ShloMosaic.Lib.WritesUnit
public import Idealize.ShloMosaic.Lib.VecWindow
public import Idealize.ShloMosaic.Lib.ValueIdxCore

@[expose] public section

set_option maxRecDepth 16384

/-!
# What the projection kernel's body stores, case by case

The first point normalizes the rows into the carried scratch; every point stores its slice of the projections into the accumulator; the last point
reads the accumulator head by head and stores the rotated queries and the quantized keys and values.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer holding `x`, loaded whole, reads `x`. -/
theorem load_whole {s : Shape} {e : EltTy} (M : Memref sig .tc .vmem s e) (h : M.IsWhole) {off : Fin s.rank → ℕ}
    (inb : ∀ a, off a + s.size a ≤ s.size a) (x : Vec F s e) :
    View.readAt (Elt F) M.view (Rect.unit off (no_index s.size) inb).toLoadRect (h.unread x) = x :=
  (View.readAt_full M.view _ inb).trans (h.read_unread x)

/-- The body's run at the first point, over the point's blocks. -/
abbrev runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t)

/-- The body's run at a middle point, over the normalized rows `n`. -/
abbrev runB (c : Dev nD) (t : Fin cfg0.N) (h0 : ¬cond0_0 (grid0.coords t)) (h1 : ¬cond0_1 (grid0.coords t)) (n : Vec F S112x8192 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t) n

/-- The body's run at the last point, over the normalized rows `n` and the sixteen heads `ps` the earlier points stored. -/
abbrev runC (c : Dev nD) (t : Fin cfg0.N) (h0 : ¬cond0_0 (grid0.coords t)) (h1 : cond0_1 (grid0.coords t))
    (hl : k0_off1 (grid0.coords t) = ![4, 0, 0]) (n : Vec F S112x8192 .bf16) (ps : Fin 16 → Vec F S1x112x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h0 h1 hl (iblk m c 0 t) (iblk m c 1 t) (iblk m c 2 t) (iblk m c 3 t) (iblk m c 4 t) (iblk m c 5 t) (iblk m c 6 t) n (ps 0) (ps 1) (ps 2) (ps 3) (ps 4) (ps 5) (ps 6) (ps 7) (ps 8) (ps 9) (ps 10) (ps 11) (ps 12) (ps 13) (ps 14) (ps 15)

/-- A point's slice of the accumulator, of the normalized rows `n` and the point's blocks. -/
def slice (c : Dev nD) (t : Fin cfg0.N) (n : Vec F S112x8192 .bf16) : Vec F S1x112x512 .f32 :=
  k0_pay51 (iblk m c 2 t) (iblk m c 3 t) n (iblk m c 4 t)

/-- The pieces of the accumulator at a point: its slice. -/
def slicePieces (c : Dev nD) (t : Fin cfg0.N) (n : Vec F S112x8192 .bf16) : List (View.Piece (Elt F) S5x112x512 .f32) :=
  [⟨Rect.unit (s := S5x112x512) (k0_off1 (grid0.coords t)) S1x112x512.size (k0_off1_inb (grid0.coords t)), slice m c t n⟩]

/-- The first point stores the normalized rows whole. -/
theorem runA_norm (c : Dev nD) (t : Fin cfg0.N) (h0 h1) : (runA m c t h0 h1).2.2.2.2.2.1
    = [⟨Rect.unit (s := S112x8192) ![0, 0] S112x8192.size inb_S112x8192_S112x8192_0_0, k0_pay50 (iblk m c 0 t) (iblk m c 1 t)⟩] := by
  dsimp only [runA, kernelRun0_A, kernelRun0_A.sl.HS0_1]
  simp only [load_whole]

/-- The first point stores its slice over the rows it has just normalized. -/
theorem runA_slice (c : Dev nD) (t : Fin cfg0.N) (h0 h1) : (runA m c t h0 h1).2.2.2.2.2.2.1
    = slicePieces m c t (k0_pay50 (iblk m c 0 t) (iblk m c 1 t)) := by
  dsimp only [runA, kernelRun0_A, kernelRun0_A.sl.HS0_1, kernelRun0_A.sl.v25, slicePieces, slice]
  rw [View.readCov_full]
  simp only [load_whole]

theorem load_rows (h : (Memref.whole cc0_scratch0).IsWhole) (x : Vec F S112x8192 .bf16) :
    View.readAt (Elt F) (View.whole cc0_scratch0) (Rect.unit (s := S112x8192) ![0, 0] S112x8192.size inb_S112x8192_S112x8192_0_0).toLoadRect (h.unread x) = x :=
  load_whole scM0_0 h inb_S112x8192_S112x8192_0_0 x

/-- A middle point stores its slice. -/
theorem runB_slice (c : Dev nD) (t : Fin cfg0.N) (h0 h1 n) : (runB m c t h0 h1 n).2.2.2.2.2.2.1 = slicePieces m c t n := by
  dsimp only [runB, kernelRun0_B, slicePieces, slice]
  simp only [load_whole]
  rw [load_rows]

/-- The last point stores its slice. -/
theorem runC_slice (c : Dev nD) (t : Fin cfg0.N) (h0 h1 hl n ps) : (runC m c t h0 h1 hl n ps).2.2.2.2.2.2.1 = slicePieces m c t n := by
  dsimp only [runC, kernelRun0_C, kernelRun0_C.sl.HS1_1, slicePieces, slice]
  simp only [load_whole]
  rw [load_rows]

/-- One head's 128 columns of a slice. -/
def part (x : Vec F S1x112x512 .f32) (o : ℕ) : Vec F S1x112x128 .f32 := fun y =>
  x (ix3 (0 : Fin 1) (y 1) (⟨(128 * o + (y 2).val) % 512, Nat.mod_lt _ (by decide)⟩ : Fin 512))

/-- The slice just stored, loaded head by head. -/
theorem load_part (c : Dev nD) (t : Fin cfg0.N) (hl : k0_off1 (grid0.coords t) = ![4, 0, 0]) (n : Vec F S112x8192 .bf16) (v : View sig .tc .vmem S5x112x512 .f32)
    (o : ℕ) (ho : o < 4) (inb : ∀ a, (![4, 0, 128 * o] : Fin 3 → ℕ) a + S1x112x128.size a ≤ S5x112x512.size a) :
    v.readCov (slicePieces m c t n) (Rect.unit (s := S5x112x512) ![4, 0, 128 * o] S1x112x128.size inb).toLoadRect = part (slice m c t n) o := by
  funext y
  refine View.read_writes_cons_unit_of_mem v _ _ _ _ _ _ hl fun a => ?_
  have h2 : (y 2).val < 128 := (y 2).isLt
  have h0 : (y 0).val < 1 := (y 0).isLt
  have hm : (128 * o + (y 2).val) % 512 = 128 * o + (y 2).val := Nat.mod_eq_of_lt (by omega)
  match a with
  | ⟨0, _⟩ => show 4 + 1 * (y 0).val = 4 + 0; omega
  | ⟨1, _⟩ => show 0 + 1 * (y 1).val = 0 + (y 1).val; omega
  | ⟨2, _⟩ => show 128 * o + 1 * (y 2).val = 0 + (128 * o + (y 2).val) % 512; omega

/-! ## What the last point stores, of a head -/

/-- A rotated head, as stored for the queries. -/
def rot (C S : Vec F S112x64 .f32) (h : Vec F S1x112x128 .f32) : FVec F S112x128 .bf16 := k0_pay10 (k0_pay2 C C) (k0_pay3 S S) h
/-- A rotated key head's codes. -/
def kcode (C S : Vec F S112x64 .f32) (h : Vec F S1x112x128 .f32) : FVec F S112x128 .f32 := k0_pay34 (k0_pay2 C C) (k0_pay3 S S) h
/-- A rotated key head's scale, in every column. -/
def kscale (C S : Vec F S112x64 .f32) (h : Vec F S1x112x128 .f32) : FVec F S112x128 .f32 := k0_pay36 (k0_pay35 (k0_pay2 C C) (k0_pay3 S S) h)
/-- A value head's codes. -/
def vcode (h : Vec F S1x112x128 .f32) : FVec F S112x128 .f32 := k0_pay39 h
/-- A value head's scale, in every column. -/
def vscale (h : Vec F S1x112x128 .f32) : FVec F S112x128 .f32 := k0_pay40 h

variable (c : Dev nD) (t : Fin cfg0.N) (h0 : ¬cond0_0 (grid0.coords t)) (h1 : cond0_1 (grid0.coords t)) (hl : k0_off1 (grid0.coords t) = ![4, 0, 0])
  (n : Vec F S112x8192 .bf16) (ps : Fin 16 → Vec F S1x112x128 .f32)

/-- The query pieces: the sixteen rotated heads. -/
theorem runC_q : (runC m c t h0 h1 hl n ps).1
    = [⟨Rect.unit (s := S112x2048) ![0, 1920] S112x128.size inb_S112x2048_S112x128_0_1920, rot (iblk m c 5 t) (iblk m c 6 t) (ps 15)⟩,
      ⟨Rect.unit (s := S112x2048) ![0, 1792] S112x128.size inb_S112x2048_S112x128_0_1792, rot (iblk m c 5 t) (iblk m c 6 t) (ps 14)⟩,
      ⟨Rect.unit (s := S112x2048) ![0, 1664] S112x128.size inb_S112x2048_S112x128_0_1664, rot (iblk m c 5 t) (iblk m c 6 t) (ps 13)⟩,
      ⟨Rect.unit (s := S112x2048) ![0, 1536] S112x128.size inb_S112x2048_S112x128_0_1536, rot (iblk m c 5 t) (iblk m c 6 t) (ps 12)⟩,
      ⟨Rect.unit (s := S112x2048) ![0, 1408] S112x128.size inb_S112x2048_S112x128_0_1408, rot (iblk m c 5 t) (iblk m c 6 t) (ps 11)⟩,
      ⟨Rect.unit (s := S112x2048) ![0, 1280] S112x128.size inb_S112x2048_S112x128_0_1280, rot (iblk m c 5 t) (iblk m c 6 t) (ps 10)⟩,
      ⟨Rect.unit (s := S112x2048) ![0, 1152] S112x128.size inb_S112x2048_S112x128_0_1152, rot (iblk m c 5 t) (iblk m c 6 t) (ps 9)⟩,
      ⟨Rect.unit (s := S112x2048) ![0, 1024] S112x128.size inb_S112x2048_S112x128_0_1024, rot (iblk m c 5 t) (iblk m c 6 t) (ps 8)⟩,
      ⟨Rect.unit (s := S112x2048) ![0, 896] S112x128.size inb_S112x2048_S112x128_0_896, rot (iblk m c 5 t) (iblk m c 6 t) (ps 7)⟩,
      ⟨Rect.unit (s := S112x2048) ![0, 768] S112x128.size inb_S112x2048_S112x128_0_768, rot (iblk m c 5 t) (iblk m c 6 t) (ps 6)⟩,
      ⟨Rect.unit (s := S112x2048) ![0, 640] S112x128.size inb_S112x2048_S112x128_0_640, rot (iblk m c 5 t) (iblk m c 6 t) (ps 5)⟩,
      ⟨Rect.unit (s := S112x2048) ![0, 512] S112x128.size inb_S112x2048_S112x128_0_512, rot (iblk m c 5 t) (iblk m c 6 t) (ps 4)⟩,
      ⟨Rect.unit (s := S112x2048) ![0, 384] S112x128.size inb_S112x2048_S112x128_0_384, rot (iblk m c 5 t) (iblk m c 6 t) (ps 3)⟩,
      ⟨Rect.unit (s := S112x2048) ![0, 256] S112x128.size inb_S112x2048_S112x128_0_256, rot (iblk m c 5 t) (iblk m c 6 t) (ps 2)⟩,
      ⟨Rect.unit (s := S112x2048) ![0, 128] S112x128.size inb_S112x2048_S112x128_0_128, rot (iblk m c 5 t) (iblk m c 6 t) (ps 1)⟩,
      ⟨Rect.unit (s := S112x2048) ![0, 0] S112x128.size inb_S112x2048_S112x128_0_0, rot (iblk m c 5 t) (iblk m c 6 t) (ps 0)⟩] := by
  dsimp only [runC, kernelRun0_C, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.v178, kernelRun0_C.sl.v206, kernelRun0_C.sl.v230, kernelRun0_C.sl.v258, kernelRun0_C.sl.HS1_1]
  simp only [load_whole]
  rfl

theorem hs1_eq : kernelRun0_C.sl.HS1_1 c (grid0.coords t) (ms0_2 t) (hs0_2 t) (ms0_3 t) (hs0_3 t) (ms0_4 t) (hs0_4 t) scM0_0 (Memref.isWhole_whole _) (iblk m c 2 t) (iblk m c 3 t) (iblk m c 4 t) n = slicePieces m c t n := by
  dsimp only [kernelRun0_C.sl.HS1_1, slicePieces, slice]
  simp only [load_whole]
  rw [load_rows]

include hl in
theorem v178_eq : kernelRun0_C.sl.v178 c (grid0.coords t) (ms0_2 t) (hs0_2 t) (ms0_3 t) (hs0_3 t) (ms0_4 t) (hs0_4 t) scM0_0 (Memref.isWhole_whole _) scM0_1 (iblk m c 2 t) (iblk m c 3 t) (iblk m c 4 t) n = part (slice m c t n) 0 := by
  dsimp only [kernelRun0_C.sl.v178]
  rw [hs1_eq]
  exact load_part m c t hl n scM0_1.view 0 (by decide) inb_S5x112x512_S1x112x128_4_0_0

include hl in
theorem v230_eq : kernelRun0_C.sl.v230 c (grid0.coords t) (ms0_2 t) (hs0_2 t) (ms0_3 t) (hs0_3 t) (ms0_4 t) (hs0_4 t) scM0_0 (Memref.isWhole_whole _) scM0_1 (iblk m c 2 t) (iblk m c 3 t) (iblk m c 4 t) n = part (slice m c t n) 1 := by
  dsimp only [kernelRun0_C.sl.v230]
  rw [hs1_eq]
  exact load_part m c t hl n scM0_1.view 1 (by decide) inb_S5x112x512_S1x112x128_4_0_128

include hl in
theorem v206_eq : kernelRun0_C.sl.v206 c (grid0.coords t) (ms0_2 t) (hs0_2 t) (ms0_3 t) (hs0_3 t) (ms0_4 t) (hs0_4 t) scM0_0 (Memref.isWhole_whole _) scM0_1 (iblk m c 2 t) (iblk m c 3 t) (iblk m c 4 t) n = part (slice m c t n) 2 := by
  dsimp only [kernelRun0_C.sl.v206]
  rw [hs1_eq]
  exact load_part m c t hl n scM0_1.view 2 (by decide) inb_S5x112x512_S1x112x128_4_0_256

include hl in
theorem v258_eq : kernelRun0_C.sl.v258 c (grid0.coords t) (ms0_2 t) (hs0_2 t) (ms0_3 t) (hs0_3 t) (ms0_4 t) (hs0_4 t) scM0_0 (Memref.isWhole_whole _) scM0_1 (iblk m c 2 t) (iblk m c 3 t) (iblk m c 4 t) n = part (slice m c t n) 3 := by
  dsimp only [kernelRun0_C.sl.v258]
  rw [hs1_eq]
  exact load_part m c t hl n scM0_1.view 3 (by decide) inb_S5x112x512_S1x112x128_4_0_384

/-- The key codes: two heads. -/
theorem runC_kc : (runC m c t h0 h1 hl n ps).2.1
    = [⟨Rect.unit (s := S112x256) ![0, 128] S112x128.size inb_S112x256_S112x128_0_128, kcode (iblk m c 5 t) (iblk m c 6 t) (part (slice m c t n) 1)⟩, ⟨Rect.unit (s := S112x256) ![0, 0] S112x128.size inb_S112x256_S112x128_0_0, kcode (iblk m c 5 t) (iblk m c 6 t) (part (slice m c t n) 0)⟩] := by
  dsimp only [runC, kernelRun0_C, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14]
  rw [v178_eq m c t hl n, v230_eq m c t hl n]
  simp only [load_whole]; rfl

/-- The key scales: two heads. -/
theorem runC_ks : (runC m c t h0 h1 hl n ps).2.2.1
    = [⟨Rect.unit (s := S112x256) ![0, 128] S112x128.size inb_S112x256_S112x128_0_128, kscale (iblk m c 5 t) (iblk m c 6 t) (part (slice m c t n) 1)⟩, ⟨Rect.unit (s := S112x256) ![0, 0] S112x128.size inb_S112x256_S112x128_0_0, kscale (iblk m c 5 t) (iblk m c 6 t) (part (slice m c t n) 0)⟩] := by
  dsimp only [runC, kernelRun0_C, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14]
  rw [v178_eq m c t hl n, v230_eq m c t hl n]
  simp only [load_whole]; rfl

/-- The value codes: two heads. -/
theorem runC_vc : (runC m c t h0 h1 hl n ps).2.2.2.1
    = [⟨Rect.unit (s := S112x256) ![0, 128] S112x128.size inb_S112x256_S112x128_0_128, vcode (part (slice m c t n) 3)⟩, ⟨Rect.unit (s := S112x256) ![0, 0] S112x128.size inb_S112x256_S112x128_0_0, vcode (part (slice m c t n) 2)⟩] := by
  dsimp only [runC, kernelRun0_C, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14]
  rw [v206_eq m c t hl n, v258_eq m c t hl n]
  rfl

/-- The value scales: two heads. -/
theorem runC_vs : (runC m c t h0 h1 hl n ps).2.2.2.2.1
    = [⟨Rect.unit (s := S112x256) ![0, 128] S112x128.size inb_S112x256_S112x128_0_128, vscale (part (slice m c t n) 3)⟩, ⟨Rect.unit (s := S112x256) ![0, 0] S112x128.size inb_S112x256_S112x128_0_0, vscale (part (slice m c t n) 2)⟩] := by
  dsimp only [runC, kernelRun0_C, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14]
  rw [v206_eq m c t hl n, v258_eq m c t hl n]
  rfl

end Cert.QkvIdeal.Gen

end
-- ==== Proof.QkvKerFrame.lean ====
module

public import proofs.«01_k».proof.Proof.QkvKerPieces
public import Idealize.ShloMosaic.Lib.Claim
public import Idealize.ShloMosaic.Lib.Pipeline.ReadBack
public import Idealize.ShloMosaic.Lib.WritesUnit
public import Idealize.ShloMosaic.Lib.VecWindow
public import Idealize.ShloMosaic.Lib.ValueIdxCore

@[expose] public section

set_option maxRecDepth 16384

/-!
# The projection kernel's run and frame, over extended reals

After point `n` the carried scratch holds the normalized rows, and the accumulator the slices of the points run so far; the last point leaves in
each output the heads it reads from them.
-/

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt5 {n : ℕ} (h : n < 5) : n < cfg0.N := lt_of_lt_of_eq h N_0.symm

/-- Grid point `k`. -/
abbrev pt (k : ℕ) (h : k < 5) : Fin cfg0.N := ⟨k, lt5 h⟩

/-- The rows the first point normalizes. -/
def nrm (c : Dev nD) : Vec F S112x8192 .bf16 := k0_pay50 (iblk m c 0 (pt 0 (by decide))) (iblk m c 1 (pt 0 (by decide)))

/-- Head `k` of the projections, read from the slice of point `k / 4`. -/
def head (c : Dev nD) (k : ℕ) (h : k < 20) : Vec F S1x112x128 .f32 :=
  part (slice m c (pt (k / 4) (by omega)) (nrm m c)) (k % 4)

/-- Heads laid side by side. -/
def beside {e : EltTy} {W : ℕ} (N : ℕ) (hW : W = 128 * N) (f : (k : ℕ) → k < N → Vec F S112x128 e) : Vec F ⟨2, ![112, W]⟩ e := fun y =>
  f ((y 1).val / 128) (Nat.div_lt_of_lt_mul (lt_of_lt_of_eq (y 1).isLt hW))
    (ix2 (y 0) (⟨(y 1).val % 128, Nat.mod_lt _ (by decide)⟩ : Fin 128))

/-- The blocks of the cosines and of the sines at the last point. -/
abbrev cosb (c : Dev nD) : Vec F S112x64 .f32 := iblk m c 5 (pt 4 (by decide))
abbrev sinb (c : Dev nD) : Vec F S112x64 .f32 := iblk m c 6 (pt 4 (by decide))

/-- The outputs: the queries, the key codes and scales, the value codes and scales. -/
def outq (c : Dev nD) : Vec F S112x2048 .bf16 := beside 16 rfl fun k h => rot (cosb m c) (sinb m c) (head m c k (by omega))
def outkc (c : Dev nD) : Vec F S112x256 .f32 := beside 2 rfl fun k h => kcode (cosb m c) (sinb m c) (head m c (16 + k) (by omega))
def outks (c : Dev nD) : Vec F S112x256 .f32 := beside 2 rfl fun k h => kscale (cosb m c) (sinb m c) (head m c (16 + k) (by omega))
def outvc (c : Dev nD) : Vec F S112x256 .f32 := beside 2 rfl fun k h => vcode (head m c (18 + k) (by omega))
def outvs (c : Dev nD) : Vec F S112x256 .f32 := beside 2 rfl fun k h => vscale (head m c (18 + k) (by omega))

/-- A head stored at its columns is what `beside` has there. -/
theorem beside_piece {e : EltTy} {W : ℕ} (N : ℕ) (hW : W = 128 * N) (f : (k : ℕ) → k < N → Vec F S112x128 e) (k : ℕ) (hk : k < N)
    (o : ℕ) (ho : o = 128 * k) (g : Vec F S112x128 e) (hg : g = f k hk)
    (inb : ∀ a, (![0, o] : Fin 2 → ℕ) a + S112x128.size a ≤ (⟨2, ![112, W]⟩ : Shape).size a) (x : S112x128.Idx) :
    g x = beside (F := F) N hW f ((Rect.unit (s := ⟨2, ![112, W]⟩) ![0, o] S112x128.size inb).emb x) := by
  subst ho
  subst hg
  have h1 : (x 1).val < 128 := (x 1).isLt
  have e0 : ((Rect.unit (s := ⟨2, ![112, W]⟩) ![0, 128 * k] S112x128.size inb).emb x 0).val = (x 0).val := by
    show 0 + 1 * (x 0).val = _; omega
  have e1 : ((Rect.unit (s := ⟨2, ![112, W]⟩) ![0, 128 * k] S112x128.size inb).emb x 1).val = 128 * k + (x 1).val := by
    show 128 * k + 1 * (x 1).val = _; omega
  unfold beside
  have hq : ((Rect.unit (s := ⟨2, ![112, W]⟩) ![0, 128 * k] S112x128.size inb).emb x 1).val / 128 = k := by rw [e1]; omega
  have hx : x = ix2 ((Rect.unit (s := ⟨2, ![112, W]⟩) ![0, 128 * k] S112x128.size inb).emb x 0)
      (⟨((Rect.unit (s := ⟨2, ![112, W]⟩) ![0, 128 * k] S112x128.size inb).emb x 1).val % 128, Nat.mod_lt _ (by decide)⟩ : Fin 128) := by
    refine (eq_ix2 x).trans ?_
    congr 1
    · exact Fin.ext e0.symm
    · exact Fin.ext (by show (x 1).val = _ % 128; rw [e1]; omega)
  have gen : ∀ (k' : ℕ) (h' : k' < N) (x' : S112x128.Idx), k' = k → x = x' → f k hk x = f k' h' x' := by
    rintro k' h' x' rfl rfl; rfl
  exact gen _ _ _ hq hx

/-- The sixteen heads the earlier points stored. -/
abbrev heads (c : Dev nD) : Fin 16 → Vec F S1x112x128 .f32 := fun k => head m c k.val (by omega)

/-- The heads of the last point's own slice. -/
theorem last_head (c : Dev nD) (j k : ℕ) (hj : j < 4) (hk : k = 16 + j) (h : k < 20) :
    part (slice m c (pt 4 (by decide)) (nrm m c)) j = head m c k h := by
  subst hk
  interval_cases j <;> rfl

/-! ## The outputs after the last point -/

section Outputs
variable (c : Dev nD) (t : Fin cfg0.N) (ht : t = pt 4 (by decide)) (h0 : ¬cond0_0 (grid0.coords t)) (h1 : cond0_1 (grid0.coords t))
  (hl : k0_off1 (grid0.coords t) = ![4, 0, 0])

include ht in
theorem read_q (v : View sig .tc .vmem S112x2048 .bf16) (f : v.ty.Contents (Elt F)) :
    v.read (Elt F) (v.writes (Elt F) f (runC m c t h0 h1 hl (nrm m c) (heads m c)).1) = outq m c := by
  rw [runC_q]
  subst ht
  funext y
  refine View.read_writes_apply_of_pieces v f (outq m c) _ (View.PiecesOf.mem ?_) y
    (View.cover_of_tiledL (s := S112x2048) _ ![112, 128] (by sl_kernel_rfl) y)
  exact ⟨beside_piece (F := F) (e := .bf16) 16 rfl (fun k h => rot (cosb m c) (sinb m c) (head m c k (by omega))) 15 (by decide) 1920 rfl _ (rfl) inb_S112x2048_S112x128_0_1920, beside_piece (F := F) (e := .bf16) 16 rfl (fun k h => rot (cosb m c) (sinb m c) (head m c k (by omega))) 14 (by decide) 1792 rfl _ (rfl) inb_S112x2048_S112x128_0_1792, beside_piece (F := F) (e := .bf16) 16 rfl (fun k h => rot (cosb m c) (sinb m c) (head m c k (by omega))) 13 (by decide) 1664 rfl _ (rfl) inb_S112x2048_S112x128_0_1664, beside_piece (F := F) (e := .bf16) 16 rfl (fun k h => rot (cosb m c) (sinb m c) (head m c k (by omega))) 12 (by decide) 1536 rfl _ (rfl) inb_S112x2048_S112x128_0_1536, beside_piece (F := F) (e := .bf16) 16 rfl (fun k h => rot (cosb m c) (sinb m c) (head m c k (by omega))) 11 (by decide) 1408 rfl _ (rfl) inb_S112x2048_S112x128_0_1408, beside_piece (F := F) (e := .bf16) 16 rfl (fun k h => rot (cosb m c) (sinb m c) (head m c k (by omega))) 10 (by decide) 1280 rfl _ (rfl) inb_S112x2048_S112x128_0_1280, beside_piece (F := F) (e := .bf16) 16 rfl (fun k h => rot (cosb m c) (sinb m c) (head m c k (by omega))) 9 (by decide) 1152 rfl _ (rfl) inb_S112x2048_S112x128_0_1152, beside_piece (F := F) (e := .bf16) 16 rfl (fun k h => rot (cosb m c) (sinb m c) (head m c k (by omega))) 8 (by decide) 1024 rfl _ (rfl) inb_S112x2048_S112x128_0_1024, beside_piece (F := F) (e := .bf16) 16 rfl (fun k h => rot (cosb m c) (sinb m c) (head m c k (by omega))) 7 (by decide) 896 rfl _ (rfl) inb_S112x2048_S112x128_0_896, beside_piece (F := F) (e := .bf16) 16 rfl (fun k h => rot (cosb m c) (sinb m c) (head m c k (by omega))) 6 (by decide) 768 rfl _ (rfl) inb_S112x2048_S112x128_0_768, beside_piece (F := F) (e := .bf16) 16 rfl (fun k h => rot (cosb m c) (sinb m c) (head m c k (by omega))) 5 (by decide) 640 rfl _ (rfl) inb_S112x2048_S112x128_0_640, beside_piece (F := F) (e := .bf16) 16 rfl (fun k h => rot (cosb m c) (sinb m c) (head m c k (by omega))) 4 (by decide) 512 rfl _ (rfl) inb_S112x2048_S112x128_0_512, beside_piece (F := F) (e := .bf16) 16 rfl (fun k h => rot (cosb m c) (sinb m c) (head m c k (by omega))) 3 (by decide) 384 rfl _ (rfl) inb_S112x2048_S112x128_0_384, beside_piece (F := F) (e := .bf16) 16 rfl (fun k h => rot (cosb m c) (sinb m c) (head m c k (by omega))) 2 (by decide) 256 rfl _ (rfl) inb_S112x2048_S112x128_0_256, beside_piece (F := F) (e := .bf16) 16 rfl (fun k h => rot (cosb m c) (sinb m c) (head m c k (by omega))) 1 (by decide) 128 rfl _ (rfl) inb_S112x2048_S112x128_0_128, beside_piece (F := F) (e := .bf16) 16 rfl (fun k h => rot (cosb m c) (sinb m c) (head m c k (by omega))) 0 (by decide) 0 rfl _ (rfl) inb_S112x2048_S112x128_0_0, trivial⟩

include ht in
theorem read_kc (v : View sig .tc .vmem S112x256 .f32) (f : v.ty.Contents (Elt F)) :
    v.read (Elt F) (v.writes (Elt F) f (runC m c t h0 h1 hl (nrm m c) (heads m c)).2.1) = outkc m c := by
  rw [runC_kc]
  subst ht
  funext y
  refine View.read_writes_apply_of_pieces v f (outkc m c) _ (View.PiecesOf.mem ?_) y
    (View.cover_of_tiledL (s := S112x256) _ ![112, 128] (by sl_kernel_rfl) y)
  exact ⟨beside_piece (F := F) (e := .f32) 2 rfl (fun k h => kcode (cosb m c) (sinb m c) (head m c (16 + k) (by omega))) 1 (by decide) 128 rfl _ (congrArg (kcode (cosb m c) (sinb m c)) (last_head m c 1 17 (by decide) rfl (by decide))) inb_S112x256_S112x128_0_128, beside_piece (F := F) (e := .f32) 2 rfl (fun k h => kcode (cosb m c) (sinb m c) (head m c (16 + k) (by omega))) 0 (by decide) 0 rfl _ (congrArg (kcode (cosb m c) (sinb m c)) (last_head m c 0 16 (by decide) rfl (by decide))) inb_S112x256_S112x128_0_0, trivial⟩

include ht in
theorem read_ks (v : View sig .tc .vmem S112x256 .f32) (f : v.ty.Contents (Elt F)) :
    v.read (Elt F) (v.writes (Elt F) f (runC m c t h0 h1 hl (nrm m c) (heads m c)).2.2.1) = outks m c := by
  rw [runC_ks]
  subst ht
  funext y
  refine View.read_writes_apply_of_pieces v f (outks m c) _ (View.PiecesOf.mem ?_) y
    (View.cover_of_tiledL (s := S112x256) _ ![112, 128] (by sl_kernel_rfl) y)
  exact ⟨beside_piece (F := F) (e := .f32) 2 rfl (fun k h => kscale (cosb m c) (sinb m c) (head m c (16 + k) (by omega))) 1 (by decide) 128 rfl _ (congrArg (kscale (cosb m c) (sinb m c)) (last_head m c 1 17 (by decide) rfl (by decide))) inb_S112x256_S112x128_0_128, beside_piece (F := F) (e := .f32) 2 rfl (fun k h => kscale (cosb m c) (sinb m c) (head m c (16 + k) (by omega))) 0 (by decide) 0 rfl _ (congrArg (kscale (cosb m c) (sinb m c)) (last_head m c 0 16 (by decide) rfl (by decide))) inb_S112x256_S112x128_0_0, trivial⟩

include ht in
theorem read_vc (v : View sig .tc .vmem S112x256 .f32) (f : v.ty.Contents (Elt F)) :
    v.read (Elt F) (v.writes (Elt F) f (runC m c t h0 h1 hl (nrm m c) (heads m c)).2.2.2.1) = outvc m c := by
  rw [runC_vc]
  subst ht
  funext y
  refine View.read_writes_apply_of_pieces v f (outvc m c) _ (View.PiecesOf.mem ?_) y
    (View.cover_of_tiledL (s := S112x256) _ ![112, 128] (by sl_kernel_rfl) y)
  exact ⟨beside_piece (F := F) (e := .f32) 2 rfl (fun k h => vcode (head m c (18 + k) (by omega))) 1 (by decide) 128 rfl _ (congrArg (vcode (F := F)) (last_head m c 3 19 (by decide) rfl (by decide))) inb_S112x256_S112x128_0_128, beside_piece (F := F) (e := .f32) 2 rfl (fun k h => vcode (head m c (18 + k) (by omega))) 0 (by decide) 0 rfl _ (congrArg (vcode (F := F)) (last_head m c 2 18 (by decide) rfl (by decide))) inb_S112x256_S112x128_0_0, trivial⟩

include ht in
theorem read_vs (v : View sig .tc .vmem S112x256 .f32) (f : v.ty.Contents (Elt F)) :
    v.read (Elt F) (v.writes (Elt F) f (runC m c t h0 h1 hl (nrm m c) (heads m c)).2.2.2.2.1) = outvs m c := by
  rw [runC_vs]
  subst ht
  funext y
  refine View.read_writes_apply_of_pieces v f (outvs m c) _ (View.PiecesOf.mem ?_) y
    (View.cover_of_tiledL (s := S112x256) _ ![112, 128] (by sl_kernel_rfl) y)
  exact ⟨beside_piece (F := F) (e := .f32) 2 rfl (fun k h => vscale (head m c (18 + k) (by omega))) 1 (by decide) 128 rfl _ (congrArg (vscale (F := F)) (last_head m c 3 19 (by decide) rfl (by decide))) inb_S112x256_S112x128_0_128, beside_piece (F := F) (e := .f32) 2 rfl (fun k h => vscale (head m c (18 + k) (by omega))) 0 (by decide) 0 rfl _ (congrArg (vscale (F := F)) (last_head m c 2 18 (by decide) rfl (by decide))) inb_S112x256_S112x128_0_0, trivial⟩

end Outputs

/-! ## The carried buffers between points -/

theorem off_eq : ∀ t : Fin cfg0.N, k0_off1 (grid0.coords t) = ![t.val, 0, 0] :=
  (by decide +kernel : ∀ t : Fin grid0.N, _)

/-- Before point `n`: the normalized rows once the first point has run, and every earlier point's slice. -/
def Held (c : Dev nD) (n : ℕ) (s0 : Vec F S112x8192 .bf16) (s1 : Vec F S5x112x512 .f32) : Prop :=
  n < 5 → (0 < n → s0 = nrm m c) ∧ ∀ (k : ℕ) (hk : k < 5), k < n → ∀ (i : Fin 112) (j : Fin 512),
    s1 (ix3 (⟨k, hk⟩ : Fin 5) i j) = slice m c (pt k hk) (nrm m c) (ix3 (0 : Fin 1) i j)

/-- What a point's slice leaves in the accumulator. -/
theorem read_slice (c : Dev nD) (t : Fin cfg0.N) (n : Vec F S112x8192 .bf16) (v : View sig .tc .vmem S5x112x512 .f32) (f : v.ty.Contents (Elt F))
    (k : ℕ) (hk : k < 5) (i : Fin 112) (j : Fin 512) :
    v.read (Elt F) (v.writes (Elt F) f (slicePieces m c t n)) (ix3 (⟨k, hk⟩ : Fin 5) i j)
      = if k = t.val then slice m c t n (ix3 (0 : Fin 1) i j) else v.read (Elt F) f (ix3 (⟨k, hk⟩ : Fin 5) i j) := by
  have hi := i.isLt
  have hj := j.isLt
  split_ifs with h
  · refine View.read_writes_cons_unit_of_mem v f _ _ _ _ (ix3 (0 : Fin 1) i j) (off_eq t) fun a => ?_
    match a with
    | ⟨0, _⟩ => show k = t.val + 0; omega
    | ⟨1, _⟩ => show i.val = 0 + i.val; omega
    | ⟨2, _⟩ => show j.val = 0 + j.val; omega
  · refine View.read_writes_cons_unit_of_not_mem v f _ _ _ _ (off_eq t) 0 ?_
    show k < t.val ∨ t.val + 1 ≤ k
    omega

/-- A point that stores its slice over the normalized rows keeps the invariant. -/
theorem held_step (c : Dev nD) (t : Fin cfg0.N) (s0 s0' : Vec F S112x8192 .bf16) (s1 : Vec F S5x112x512 .f32) (v : View sig .tc .vmem S5x112x512 .f32)
    (f : v.ty.Contents (Elt F)) (hs : v.read (Elt F) f = s1) (h : Held m c t.val s0 s1) (h' : s0' = nrm m c) :
    Held m c (t.val + 1) s0' (v.read (Elt F) (v.writes (Elt F) f (slicePieces m c t (nrm m c)))) := by
  intro hn
  refine ⟨fun _ => h', fun k hk hkt i j => ?_⟩
  rw [read_slice]
  split_ifs with e
  · subst e; rfl
  · rw [hs]
    exact (h (by omega)).2 k hk (by omega) i j

/-- A head of an earlier point's slice, loaded from the accumulator. -/
theorem load_head (c : Dev nD) (s0 : Vec F S112x8192 .bf16) (s1 : Vec F S5x112x512 .f32) (h : Held m c 4 s0 s1) (hw : (Memref.whole cc0_scratch1).IsWhole)
    (k o q : ℕ) (hk : k < 16) (hq : q = k / 4) (ho : o = 128 * (k % 4)) (inb : ∀ a, (![q, 0, o] : Fin 3 → ℕ) a + S1x112x128.size a ≤ S5x112x512.size a) :
    View.readAt (Elt F) scM0_1.view (Rect.unit (s := S5x112x512) ![q, 0, o] S1x112x128.size inb).toLoadRect (hw.unread s1)
      = head m c k (by omega) := by
  subst hq; subst ho
  funext y
  have h2 : (y 2).val < 128 := (y 2).isLt
  have h0 : (y 0).val < 1 := (y 0).isLt
  have hi : (y 1).val < 112 := (y 1).isLt
  have hm : (128 * (k % 4) + (y 2).val) % 512 = 128 * (k % 4) + (y 2).val := Nat.mod_eq_of_lt (by omega)
  show View.read (Elt F) scM0_1.view (hw.unread s1) _ = _
  rw [show View.read (Elt F) scM0_1.view (hw.unread s1) = s1 from hw.read_unread s1]
  refine Eq.trans (congrArg s1 ?_) ((h (by decide)).2 (k / 4) (by omega) (by omega) (y 1) (⟨(128 * (k % 4) + (y 2).val) % 512, Nat.mod_lt _ (by decide)⟩ : Fin 512))
  funext a
  match a with
  | ⟨0, _⟩ => exact Fin.ext (by show k / 4 + 1 * (y 0).val = k / 4; omega)
  | ⟨1, _⟩ => exact Fin.ext (by show 0 + 1 * (y 1).val = (y 1).val; omega)
  | ⟨2, _⟩ => exact Fin.ext (by show 128 * (k % 4) + 1 * (y 2).val = (128 * (k % 4) + (y 2).val) % 512; omega)

/-- The region invariant before position `n`: the carried buffers at contents that `Held` describes, and the generator register at some state. -/
def PhiS (c : Dev nD) (n : ℕ) (h : n ≤ cfg0.N) : sProp 𝕄 :=
  iprop(∃ s0 s1, ⌜Held m c n s0 s1⌝ ∗ (owns (c : Thread nD τ) scM0_0 fullShare s0 ∗ owns (c : Thread nD τ) scM0_1 fullShare s1) ∗ (∃ r, prngReg c r))

/-! ## The pipeline's proof data -/

/-- The proof data of the one pipeline on core `c`: each input's buffer holds its block, the outputs what the last point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outq m c
    | ⟨8, _⟩ => outkc m c
    | ⟨9, _⟩ => outks m c
    | ⟨10, _⟩ => outvc m c
    | ⟨11, _⟩ => outvs m c
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outq m c := by dsimp only [dats]
theorem after0_8 (c : Dev nD) (t : Fin cfg0.N) : (dats m 0 c).after 8 t = outkc m c := by dsimp only [dats]
theorem after0_9 (c : Dev nD) (t : Fin cfg0.N) : (dats m 0 c).after 9 t = outks m c := by dsimp only [dats]
theorem after0_10 (c : Dev nD) (t : Fin cfg0.N) : (dats m 0 c).after 10 t = outvc m c := by dsimp only [dats]
theorem after0_11 (c : Dev nD) (t : Fin cfg0.N) : (dats m 0 c).after 11 t = outvs m c := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem hoff0_k0_off1_C (t : Fin cfg0.N) (h : t.val = 4) : k0_off1 (grid0.coords t) = ![4, 0, 0] := by rw [off_eq t, h]

set_option maxHeartbeats 4000000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS
  have hc0 : cond0_0 (grid0.coords t) := (hcond0_0 t).mpr (by omega)
  have hc1 : ¬cond0_1 (grid0.coords t) := fun h' => by have := (hcond0_1 t).mp h'; omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_A t hc0 hc1) (noFlush0_7_A t hc0 hc1)]
  rw [Dat.leavesExact_idle (dats m 0 c) 8 t (idleAt0_8_A t hc0 hc1) (noFlush0_8_A t hc0 hc1)]
  rw [Dat.leavesExact_idle (dats m 0 c) 9 t (idleAt0_9_A t hc0 hc1) (noFlush0_9_A t hc0 hc1)]
  rw [Dat.leavesExact_idle (dats m 0 c) 10 t (idleAt0_10_A t hc0 hc1) (noFlush0_10_A t hc0 hc1)]
  rw [Dat.leavesExact_idle (dats m 0 c) 11 t (idleAt0_11_A t hc0 hc1) (noFlush0_11_A t hc0 hc1)]
  iintro ⟨⟨%s0, %s1, %hh, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hn : k0_pay50 (iblk m c 0 t) (iblk m c 1 t) = nrm m c := by
    obtain rfl : t = pt 0 (by decide) := Fin.ext h
    rfl
  iapply ((runA m c t hc0 hc1).2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexists _; iexact HS0
  isplitl [HS1]; · iexact HS1
  iintro ⟨H0, H1, H2, H3, H4, H5, H6, H7, H8, H9, H10, H11, ⟨%es0, HS0⟩, HS1⟩
  isplitl [HS0 HS1 Hg]
  · iexists (nrm m c), (scM0_1.view.read (Elt F) (scM0_1.view.writes (Elt F) ((Memref.isWhole_whole cc0_scratch1).unread s1) (runA m c t hc0 hc1).2.2.2.2.2.2.1))
    isplitr
    · ipureintro
      rw [runA_slice, hn]
      exact held_step m c t s0 (nrm m c) s1 _ _ ((Memref.isWhole_whole cc0_scratch1).read_unread s1) hh rfl
    isplitl [HS0 HS1]
    · isplitl [HS0]
      · unfold owns; iexists _; isplitr
        swap; · iexact HS0
        ipureintro
        rw [runA_norm, hn]
        exact View.read_writes_full scM0_0.view es0 inb_S112x8192_S112x8192_0_0 (nrm m c) []
      unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 4000000 in
/-- The body at a middle point. -/
theorem sound_B (c : Dev nD) (t : Fin cfg0.N) (h : t.val ≠ 0) (h' : t.val ≠ 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 5 := lt_of_lt_of_eq t.isLt (show cfg0.N = 5 from N_0)
  have hc0 : ¬cond0_0 (grid0.coords t) := fun h' => by have := (hcond0_0 t).mp h'; omega
  have hc1 : ¬cond0_1 (grid0.coords t) := fun h' => by have := (hcond0_1 t).mp h'; omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_B t hc0 hc1) (noFlush0_7_B t hc0 hc1)]
  rw [Dat.leavesExact_idle (dats m 0 c) 8 t (idleAt0_8_B t hc0 hc1) (noFlush0_8_B t hc0 hc1)]
  rw [Dat.leavesExact_idle (dats m 0 c) 9 t (idleAt0_9_B t hc0 hc1) (noFlush0_9_B t hc0 hc1)]
  rw [Dat.leavesExact_idle (dats m 0 c) 10 t (idleAt0_10_B t hc0 hc1) (noFlush0_10_B t hc0 hc1)]
  rw [Dat.leavesExact_idle (dats m 0 c) 11 t (idleAt0_11_B t hc0 hc1) (noFlush0_11_B t hc0 hc1)]
  iintro ⟨⟨%s0, %s1, %hh, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl : s0 = nrm m c := (hh hN).1 (by omega)
  iapply ((runB m c t hc0 hc1 (nrm m c)).2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · iexists (nrm m c), (scM0_1.view.read (Elt F) (scM0_1.view.writes (Elt F) ((Memref.isWhole_whole cc0_scratch1).unread s1) (runB m c t hc0 hc1 (nrm m c)).2.2.2.2.2.2.1))
    isplitr
    · ipureintro
      rw [runB_slice]
      exact held_step m c t (nrm m c) (nrm m c) s1 _ _ ((Memref.isWhole_whole cc0_scratch1).read_unread s1) hh rfl
    isplitl [HS0 HS1]
    · isplitl [HS0]
      · iexact HS0
      unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 4000000 in
/-- The body at the last point. -/
theorem sound_C (c : Dev nD) (t : Fin cfg0.N) (h : t.val = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS
  have ht : t = pt 4 (by decide) := Fin.ext h
  have hc0 : ¬cond0_0 (grid0.coords t) := fun h' => by have := (hcond0_0 t).mp h'; omega
  have hc1 : cond0_1 (grid0.coords t) := (hcond0_1 t).mpr (by omega)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7_C t hc0 hc1], after0_7]
  rw [show (dats m 0 c).leavesExact 8 t = owns (c : Thread nD τ) (ms0_8 t) fullShare ((dats m 0 c).after 8 t) from by
    unfold Dat.leavesExact; rw [liveAt0_8_C t hc0 hc1], after0_8]
  rw [show (dats m 0 c).leavesExact 9 t = owns (c : Thread nD τ) (ms0_9 t) fullShare ((dats m 0 c).after 9 t) from by
    unfold Dat.leavesExact; rw [liveAt0_9_C t hc0 hc1], after0_9]
  rw [show (dats m 0 c).leavesExact 10 t = owns (c : Thread nD τ) (ms0_10 t) fullShare ((dats m 0 c).after 10 t) from by
    unfold Dat.leavesExact; rw [liveAt0_10_C t hc0 hc1], after0_10]
  rw [show (dats m 0 c).leavesExact 11 t = owns (c : Thread nD τ) (ms0_11 t) fullShare ((dats m 0 c).after 11 t) from by
    unfold Dat.leavesExact; rw [liveAt0_11_C t hc0 hc1], after0_11]
  iintro ⟨⟨%s0, %s1, %hh, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl : s0 = nrm m c := (hh (by omega)).1 (by omega)
  iapply ((runC m c t hc0 hc1 (hoff0_k0_off1_C t h) (nrm m c) (heads m c)).2.2.2.2.2.2.2 s1 (load_head m c (nrm m c) s1 (h ▸ hh) _ 0 0 0 (by decide) (by decide) (by decide) inb_S5x112x512_S1x112x128_0_0_0) (load_head m c (nrm m c) s1 (h ▸ hh) _ 1 128 0 (by decide) (by decide) (by decide) inb_S5x112x512_S1x112x128_0_0_128) (load_head m c (nrm m c) s1 (h ▸ hh) _ 2 256 0 (by decide) (by decide) (by decide) inb_S5x112x512_S1x112x128_0_0_256) (load_head m c (nrm m c) s1 (h ▸ hh) _ 3 384 0 (by decide) (by decide) (by decide) inb_S5x112x512_S1x112x128_0_0_384) (load_head m c (nrm m c) s1 (h ▸ hh) _ 4 0 1 (by decide) (by decide) (by decide) inb_S5x112x512_S1x112x128_1_0_0) (load_head m c (nrm m c) s1 (h ▸ hh) _ 5 128 1 (by decide) (by decide) (by decide) inb_S5x112x512_S1x112x128_1_0_128) (load_head m c (nrm m c) s1 (h ▸ hh) _ 6 256 1 (by decide) (by decide) (by decide) inb_S5x112x512_S1x112x128_1_0_256) (load_head m c (nrm m c) s1 (h ▸ hh) _ 7 384 1 (by decide) (by decide) (by decide) inb_S5x112x512_S1x112x128_1_0_384) (load_head m c (nrm m c) s1 (h ▸ hh) _ 8 0 2 (by decide) (by decide) (by decide) inb_S5x112x512_S1x112x128_2_0_0) (load_head m c (nrm m c) s1 (h ▸ hh) _ 9 128 2 (by decide) (by decide) (by decide) inb_S5x112x512_S1x112x128_2_0_128) (load_head m c (nrm m c) s1 (h ▸ hh) _ 10 256 2 (by decide) (by decide) (by decide) inb_S5x112x512_S1x112x128_2_0_256) (load_head m c (nrm m c) s1 (h ▸ hh) _ 11 384 2 (by decide) (by decide) (by decide) inb_S5x112x512_S1x112x128_2_0_384) (load_head m c (nrm m c) s1 (h ▸ hh) _ 12 0 3 (by decide) (by decide) (by decide) inb_S5x112x512_S1x112x128_3_0_0) (load_head m c (nrm m c) s1 (h ▸ hh) _ 13 128 3 (by decide) (by decide) (by decide) inb_S5x112x512_S1x112x128_3_0_128) (load_head m c (nrm m c) s1 (h ▸ hh) _ 14 256 3 (by decide) (by decide) (by decide) inb_S5x112x512_S1x112x128_3_0_256) (load_head m c (nrm m c) s1 (h ▸ hh) _ 15 384 3 (by decide) (by decide) (by decide) inb_S5x112x512_S1x112x128_3_0_384) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, HS0, HS1⟩
  isplitl [HS0 HS1 Hg]
  · iexists (nrm m c), (scM0_1.view.read (Elt F) (scM0_1.view.writes (Elt F) ((Memref.isWhole_whole cc0_scratch1).unread s1) (runC m c t hc0 hc1 (hoff0_k0_off1_C t h) (nrm m c) (heads m c)).2.2.2.2.2.2.1))
    isplitr
    · ipureintro
      intro h5; omega
    isplitl [HS0 HS1]
    · isplitl [HS0]
      · iexact HS0
      unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact read_q m c t ht hc0 hc1 (hoff0_k0_off1_C t h) _ _
  isplitl [H8]
  · unfold owns; iexists _; isplitr
    swap; · iexact H8
    ipureintro; exact read_kc m c t ht hc0 hc1 (hoff0_k0_off1_C t h) _ _
  isplitl [H9]
  · unfold owns; iexists _; isplitr
    swap; · iexact H9
    ipureintro; exact read_ks m c t ht hc0 hc1 (hoff0_k0_off1_C t h) _ _
  isplitl [H10]
  · unfold owns; iexists _; isplitr
    swap; · iexact H10
    ipureintro; exact read_vc m c t ht hc0 hc1 (hoff0_k0_off1_C t h) _ _
  unfold owns; iexists _; isplitr
  swap; · iexact H11
  ipureintro; exact read_vs m c t ht hc0 hc1 (hoff0_k0_off1_C t h) _ _

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  by_cases h' : t.val = 4
  · exact sound_C m c t h'
  exact sound_B m c t h h'

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%s0, HS0⟩, ⟨%s1, HS1⟩⟩, Hg⟩
  iexists s0, s1
  isplitr
  · ipureintro
    exact fun _ => ⟨fun h => absurd h (Nat.lt_irrefl 0), fun k hk h => absurd h (Nat.not_lt_zero k)⟩
  isplitl [HS0 HS1]
  · isplitl [HS0]; · iexact HS0
    iexact HS1
  iexact Hg

/-- After the last point the carried buffers are handed back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%s0, %s1, %hh, ⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- The run: every array at what the proof data gives, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.QkvIdeal.Gen

end
-- ==== Proof.QkvKer.lean ====
module

public import proofs.«01_k».proof.Proof.QkvForms
public import proofs.«01_k».proof.Proof.QkvKerFrame

@[expose] public section

set_option maxRecDepth 16384

/-!
# The query, key and value projections: what the kernel computes
-/

noncomputable section
open Idealize.ShloMosaic Idealize.ShloMosaic.TcCoe Idealize.SL.Sem

namespace Cert.QkvIdeal.Value
open Cert.QkvIdeal Cert.QkvIdeal.Gen Cert.QkvForms

variable (m : (ℓ : Loc nD τ sig) → Buf (Elt Ideal) ℓ)

/-- The rows the first point normalizes, at an index. -/
theorem pay50_at (h : Vec Ideal S112x8192 .bf16) (g : Vec Ideal S1x8192 .f32) (i : Fin 112) (k : Fin 8192) :
    k0_pay50 (F := Ideal) h g (ix2 i k) = norm (fun x => h (ix2 i x)) (fun x => g (ix2 0 x)) k := by
  pointwise [k0_pay50]
  rfl

/-- A slice of the projections, at an index. -/
theorem pay51_at (q : Vec Ideal S1024x512 .i32) (s : Vec Ideal S64x512 .bf16) (n : Vec Ideal S112x8192 .bf16) (b : Vec Ideal S1x512 .f32)
    (i : Fin 112) (l : Fin 512) :
    k0_pay51 (F := Ideal) q s n b (ix3 0 i l) = ∑ k : Fin 8192, (show EReal from n (ix2 i k))
      * (Codes.num (Codes.code (q (ix2 ⟨k / 8, by omega⟩ l)) (k % 8)) * (show EReal from s (ix2 ⟨k / 128, by omega⟩ l))) + b (ix2 0 l) := by
  pointwise [k0_pay51]
  rfl

/-- The rotation as the kernel computes it, on the two halves. -/
theorem rope_of (t : Fin 128 → EReal) (c s : Fin 64 → EReal) (j : Fin 128) (h1 : ((j : ℕ) + 128 - 64) % 128 < 128)
    (h2 : ¬(j : ℕ) < 64 → (j : ℕ) - 64 < 64) :
    ((t j * if h : (j : ℕ) < 64 then c ⟨j, h⟩ else c ⟨j - 64, h2 h⟩)
      + t ⟨((j : ℕ) + 128 - 64) % 128, h1⟩ * if h : (j : ℕ) < 64 then 0 - s ⟨j, h⟩ else s ⟨j - 64, h2 h⟩) = rope t c s j := by
  unfold rope
  by_cases h : (j : ℕ) < 64
  · simp only [dif_pos h]
    have e : (⟨((j : ℕ) + 128 - 64) % 128, h1⟩ : Fin 128) = ⟨j + 64, by omega⟩ := Fin.ext (by show ((j : ℕ) + 128 - 64) % 128 = j + 64; omega)
    rw [e, zero_sub, mul_neg, sub_eq_add_neg]
  · simp only [dif_neg h]
    have e : (⟨((j : ℕ) + 128 - 64) % 128, h1⟩ : Fin 128) = ⟨j - 64, by omega⟩ := Fin.ext (by show ((j : ℕ) + 128 - 64) % 128 = j - 64; omega)
    rw [e]

theorem rot_at (C S : Vec Ideal S112x64 .f32) (h : Vec Ideal S1x112x128 .f32) (i : Fin 112) (j : Fin 128) :
    rot (F := Ideal) C S h (ix2 i j) = rope (fun x => h (ix3 0 i x)) (fun x => C (ix2 i x)) (fun x => S (ix2 i x)) j := by
  pointwise [rot, k0_pay10, k0_pay2, k0_pay3]
  exact rope_of (fun x => h (ix3 0 i x)) (fun x => C (ix2 i x)) (fun x => S (ix2 i x)) j _ _

theorem pay32_at (C S : Vec Ideal S112x64 .f32) (h : Vec Ideal S1x112x128 .f32) (i : Fin 112) (j : Fin 128) :
    k0_pay32 (F := Ideal) (k0_pay2 C C) (k0_pay3 S S) h (ix2 i j)
      = rope (fun x => h (ix3 0 i x)) (fun x => C (ix2 i x)) (fun x => S (ix2 i x)) j := by
  pointwise [k0_pay32, k0_pay2, k0_pay3]
  exact rope_of (fun x => h (ix3 0 i x)) (fun x => C (ix2 i x)) (fun x => S (ix2 i x)) j _ _

theorem vscale_at (h : Vec Ideal S1x112x128 .f32) (i : Fin 112) (j : Fin 128) :
    vscale (F := Ideal) h (ix2 i j) = scale (fun x => h (ix3 0 i x)) := by
  pointwise [vscale, k0_pay40, k0_pay38, k0_pay37]
  rfl

theorem vcode_at (h : Vec Ideal S1x112x128 .f32) (i : Fin 112) (j : Fin 128) :
    vcode (F := Ideal) h (ix2 i j) = code (fun x => h (ix3 0 i x)) j := by
  pointwise [vcode, k0_pay39, k0_pay38, k0_pay37]
  rfl

theorem kscale_at (C S : Vec Ideal S112x64 .f32) (h : Vec Ideal S1x112x128 .f32) (i : Fin 112) (j : Fin 128) :
    kscale (F := Ideal) C S h (ix2 i j) = scale (rope (fun x => h (ix3 0 i x)) (fun x => C (ix2 i x)) (fun x => S (ix2 i x))) := by
  pointwise [kscale, k0_pay36, k0_pay35, k0_pay33, pay32_at]
  rfl

theorem kcode_at (C S : Vec Ideal S112x64 .f32) (h : Vec Ideal S1x112x128 .f32) (i : Fin 112) (j : Fin 128) :
    kcode (F := Ideal) C S h (ix2 i j) = code (rope (fun x => h (ix3 0 i x)) (fun x => C (ix2 i x)) (fun x => S (ix2 i x))) j := by
  pointwise [kcode, k0_pay34, k0_pay33, pay32_at]
  rfl

/-! ## Of the argument arrays -/

/-- The windows' block indices: the weights', scales' and bias's columns are block `t`; every other window is its whole array. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, _)

/-- The argument arrays. -/
abbrev a0 (c : Dev nD) : FVec Ideal S112x1x8192 .bf16 := m ((c : Thread nD τ).loc main_arg0)
abbrev a1 (c : Dev nD) : FVec Ideal S8192 .f32 := m ((c : Thread nD τ).loc main_arg1)
abbrev a2 (c : Dev nD) : IVec S1024x2560 32 := m ((c : Thread nD τ).loc main_arg2)
abbrev a3 (c : Dev nD) : FVec Ideal S64x2560 .bf16 := m ((c : Thread nD τ).loc main_arg3)
abbrev a4 (c : Dev nD) : FVec Ideal S2560 .f32 := m ((c : Thread nD τ).loc main_arg4)
abbrev a5 (c : Dev nD) : FVec Ideal S112x1x64 .f32 := m ((c : Thread nD τ).loc main_arg5)
abbrev a6 (c : Dev nD) : FVec Ideal S112x1x64 .f32 := m ((c : Thread nD τ).loc main_arg6)

/-- The reshaped arguments the region reads. -/
theorem v0_at (c : Dev nD) (i : Fin 112) (k : Fin 8192) : V m c main_v0 (ix2 i k) = a0 m c (ix3 i 0 k) := by
  rw [show V m c main_v0 = StableHlo.after hostOps0 (fun b => m (c, b)) (Proc.devRef .tc main_v0) from by rw [← List.append_nil hostOps0]; rfl]
  entry_read
  pointwise
theorem v1_at (c : Dev nD) (k : Fin 8192) : V m c main_v1 (ix2 0 k) = a1 m c (ix1 k) := by
  rw [show V m c main_v1 = StableHlo.after hostOps0 (fun b => m (c, b)) (Proc.devRef .tc main_v1) from by rw [← List.append_nil hostOps0]; rfl]
  entry_read
  pointwise
theorem v2_at (c : Dev nD) (l : Fin 2560) : V m c main_v2 (ix2 0 l) = a4 m c (ix1 l) := by
  rw [show V m c main_v2 = StableHlo.after hostOps0 (fun b => m (c, b)) (Proc.devRef .tc main_v2) from by rw [← List.append_nil hostOps0]; rfl]
  entry_read
  pointwise
theorem v3_at (c : Dev nD) (i : Fin 112) (j : Fin 64) : V m c main_v3 (ix2 i j) = a5 m c (ix3 i 0 j) := by
  rw [show V m c main_v3 = StableHlo.after hostOps0 (fun b => m (c, b)) (Proc.devRef .tc main_v3) from by rw [← List.append_nil hostOps0]; rfl]
  entry_read
  pointwise
theorem v4_at (c : Dev nD) (i : Fin 112) (j : Fin 64) : V m c main_v4 (ix2 i j) = a6 m c (ix3 i 0 j) := by
  rw [show V m c main_v4 = StableHlo.after hostOps0 (fun b => m (c, b)) (Proc.devRef .tc main_v4) from by rw [← List.append_nil hostOps0]; rfl]
  entry_read
  pointwise

/-- The blocks the points read. -/
theorem b0_at (c : Dev nD) (t : Fin cfg0.N) (i : Fin 112) (k : Fin 8192) : iblk m c 0 t (ix2 i k) = a0 m c (ix3 i 0 k) := by
  refine Eq.trans (congrArg (V m c main_v0) ?_) (v0_at m c i k)
  exact (eq_ix2 _).trans (congrArg₂ ix2 (Fin.ext (by blk_simp [idx t])) (Fin.ext (by blk_simp [idx t])))
theorem b1_at (c : Dev nD) (t : Fin cfg0.N) (k : Fin 8192) : iblk m c 1 t (ix2 0 k) = a1 m c (ix1 k) := by
  refine Eq.trans (congrArg (V m c main_v1) ?_) (v1_at m c k)
  exact (eq_ix2 _).trans (congrArg₂ ix2 (Fin.ext (by blk_simp [idx t])) (Fin.ext (by blk_simp [idx t])))
theorem b4_at (c : Dev nD) (t : Fin cfg0.N) (l : Fin 512) (l' : Fin 2560) (hl : (l' : ℕ) = t.val * 512 + l) :
    iblk m c 4 t (ix2 0 l) = a4 m c (ix1 l') := by
  refine Eq.trans (congrArg (V m c main_v2) ?_) (v2_at m c l')
  exact (eq_ix2 _).trans (congrArg₂ ix2 (Fin.ext (by blk_simp [idx t])) (Fin.ext (by blk_simp [idx t, hl])))
theorem b5_at (c : Dev nD) (t : Fin cfg0.N) (i : Fin 112) (j : Fin 64) : iblk m c 5 t (ix2 i j) = a5 m c (ix3 i 0 j) := by
  refine Eq.trans (congrArg (V m c main_v3) ?_) (v3_at m c i j)
  exact (eq_ix2 _).trans (congrArg₂ ix2 (Fin.ext (by blk_simp [idx t])) (Fin.ext (by blk_simp [idx t])))
theorem b6_at (c : Dev nD) (t : Fin cfg0.N) (i : Fin 112) (j : Fin 64) : iblk m c 6 t (ix2 i j) = a6 m c (ix3 i 0 j) := by
  refine Eq.trans (congrArg (V m c main_v4) ?_) (v4_at m c i j)
  exact (eq_ix2 _).trans (congrArg₂ ix2 (Fin.ext (by blk_simp [idx t])) (Fin.ext (by blk_simp [idx t])))

/-- The carried rows. -/
theorem nrm_at (c : Dev nD) (i : Fin 112) (k : Fin 8192) :
    nrm m c (ix2 i k) = QkvForms.norm (fun l => a0 m c (ix3 i 0 l)) (fun l => a1 m c (ix1 l)) k := by
  refine (pay50_at _ _ i k).trans ?_
  simp only [b0_at, b1_at]

/-- A slice of the projections. -/
theorem slice_at (c : Dev nD) (t : Fin cfg0.N) (i : Fin 112) (l : Fin 512) (l' : Fin 2560) (hl : (l' : ℕ) = t.val * 512 + l) :
    slice m c t (nrm m c) (ix3 0 i l) = proj (fun l => a0 m c (ix3 i 0 l)) (fun l => a1 m c (ix1 l))
      (fun r => a2 m c (ix2 r l')) (fun r => a3 m c (ix2 r l')) (a4 m c (ix1 l')) := by
  refine (pay51_at _ _ _ _ i l).trans ?_
  unfold proj
  simp only [nrm_at]
  have hN := lt_of_lt_of_eq t.isLt (show cfg0.N = 5 from N_0)
  rw [b4_at m c t l l' hl]
  blk_point [iblk, V, idx t]

/-- A head the last point reads. -/
theorem head_at (c : Dev nD) (k : ℕ) (h : k < 20) (i : Fin 112) (j : Fin 128) : Gen.head m c k h (ix3 0 i j)
    = QkvForms.head (a0 m c) (a1 m c) (a2 m c) (a3 m c) (a4 m c) i k h j := by
  have hj := j.isLt
  exact slice_at m c (pt (k / 4) (by omega)) i ⟨(128 * (k % 4) + j) % 512, Nat.mod_lt _ (by decide)⟩ ⟨128 * k + j, by omega⟩
    (by show 128 * k + (j : ℕ) = k / 4 * 512 + (128 * (k % 4) + j) % 512; omega)

/-- The same, rotated. -/
theorem turned_eq (c : Dev nD) (k : ℕ) (h : k < 20) (i : Fin 112) :
    rope (fun j => Gen.head m c k h (ix3 0 i j)) (fun j => cosb m c (ix2 i j)) (fun j => sinb m c (ix2 i j))
      = turned (a0 m c) (a1 m c) (a2 m c) (a3 m c) (a4 m c) (a5 m c) (a6 m c) i k h := by
  unfold turned
  simp only [head_at, b5_at, b6_at]

/-- The output arrays at an index. -/
theorem outq_eq (c : Dev nD) : outq m c = queries (a0 m c) (a1 m c) (a2 m c) (a3 m c) (a4 m c) (a5 m c) (a6 m c) := by
  funext y
  have h : (y 1 : ℕ) < 2048 := (y 1).isLt
  exact (rot_at _ _ _ (y 0) ⟨(y 1 : ℕ) % 128, by omega⟩).trans (congrFun (turned_eq m c _ _ (y 0)) _)

theorem outkc_at (c : Dev nD) (i : Fin 112) (k : Fin 2) (j : Fin 128) (l : Fin 256) (hl : (l : ℕ) = 128 * k + j) :
    outkc m c (ix2 i l) = code (turned (a0 m c) (a1 m c) (a2 m c) (a3 m c) (a4 m c) (a5 m c) (a6 m c) i (16 + k) (by omega)) j := by
  have hk : (l : ℕ) / 128 < 2 := by have := l.isLt; omega
  have hj : (l : ℕ) % 128 < 128 := Nat.mod_lt _ (by decide)
  obtain rfl : k = ⟨(l : ℕ) / 128, hk⟩ := Fin.ext (by show (k : ℕ) = l / 128; omega)
  obtain rfl : j = ⟨(l : ℕ) % 128, hj⟩ := Fin.ext (by show (j : ℕ) = l % 128; omega)
  refine (kcode_at _ _ _ i (⟨(l : ℕ) % 128, Nat.mod_lt _ (by decide)⟩ : Fin 128)).trans ?_
  exact congrArg (fun u => code u _) (turned_eq m c _ _ i)
theorem outks_at (c : Dev nD) (i : Fin 112) (k : Fin 2) (j : Fin 128) (l : Fin 256) (hl : (l : ℕ) = 128 * k + j) :
    outks m c (ix2 i l) = scale (turned (a0 m c) (a1 m c) (a2 m c) (a3 m c) (a4 m c) (a5 m c) (a6 m c) i (16 + k) (by omega)) := by
  have hk : (l : ℕ) / 128 < 2 := by have := l.isLt; omega
  have hj : (l : ℕ) % 128 < 128 := Nat.mod_lt _ (by decide)
  obtain rfl : k = ⟨(l : ℕ) / 128, hk⟩ := Fin.ext (by show (k : ℕ) = l / 128; omega)
  obtain rfl : j = ⟨(l : ℕ) % 128, hj⟩ := Fin.ext (by show (j : ℕ) = l % 128; omega)
  refine (kscale_at _ _ _ i (⟨(l : ℕ) % 128, Nat.mod_lt _ (by decide)⟩ : Fin 128)).trans ?_
  exact congrArg (fun u => scale u) (turned_eq m c _ _ i)
theorem outvc_at (c : Dev nD) (i : Fin 112) (k : Fin 2) (j : Fin 128) (l : Fin 256) (hl : (l : ℕ) = 128 * k + j) :
    outvc m c (ix2 i l) = code (QkvForms.head (a0 m c) (a1 m c) (a2 m c) (a3 m c) (a4 m c) i (18 + k) (by omega)) j := by
  have hk : (l : ℕ) / 128 < 2 := by have := l.isLt; omega
  have hj : (l : ℕ) % 128 < 128 := Nat.mod_lt _ (by decide)
  obtain rfl : k = ⟨(l : ℕ) / 128, hk⟩ := Fin.ext (by show (k : ℕ) = l / 128; omega)
  obtain rfl : j = ⟨(l : ℕ) % 128, hj⟩ := Fin.ext (by show (j : ℕ) = l % 128; omega)
  refine (vcode_at _ i (⟨(l : ℕ) % 128, Nat.mod_lt _ (by decide)⟩ : Fin 128)).trans ?_
  exact congrArg (fun u => code u _) (funext fun j => head_at m c _ _ i j)
theorem outvs_at (c : Dev nD) (i : Fin 112) (k : Fin 2) (j : Fin 128) (l : Fin 256) (hl : (l : ℕ) = 128 * k + j) :
    outvs m c (ix2 i l) = scale (QkvForms.head (a0 m c) (a1 m c) (a2 m c) (a3 m c) (a4 m c) i (18 + k) (by omega)) := by
  have hk : (l : ℕ) / 128 < 2 := by have := l.isLt; omega
  have hj : (l : ℕ) % 128 < 128 := Nat.mod_lt _ (by decide)
  obtain rfl : k = ⟨(l : ℕ) / 128, hk⟩ := Fin.ext (by show (k : ℕ) = l / 128; omega)
  obtain rfl : j = ⟨(l : ℕ) % 128, hj⟩ := Fin.ext (by show (j : ℕ) = l % 128; omega)
  refine (vscale_at _ i (⟨(l : ℕ) % 128, Nat.mod_lt _ (by decide)⟩ : Fin 128)).trans ?_
  exact congrArg (fun u => scale u) (funext fun j => head_at m c _ _ i j)

/-! ## The arrays after the run -/

theorem arr7 (c : Dev nD) : (dats m 0 c).arrAt 7 cfg0.N = outq m c := by
  refine (dats m 0 c).arrAt_eq_of_covers 7 _ (by decide +kernel) fun t _ y => ?_
  blk_simp
  rw [after0_7]
  refine congrArg (outq m c) ((eq_ix2 y).trans ((congrArg₂ ix2 (Fin.ext ?_) (Fin.ext ?_)).trans (eq_ix2 _).symm))
  · blk_simp [idx t]
  · blk_simp [idx t]

theorem arr8 (c : Dev nD) : (dats m 0 c).arrAt 8 cfg0.N = outkc m c := by
  refine (dats m 0 c).arrAt_eq_of_covers 8 _ (by decide +kernel) fun t _ y => ?_
  blk_simp
  rw [after0_8]
  refine congrArg (outkc m c) ((eq_ix2 y).trans ((congrArg₂ ix2 (Fin.ext ?_) (Fin.ext ?_)).trans (eq_ix2 _).symm))
  · blk_simp [idx t]
  · blk_simp [idx t]

theorem arr9 (c : Dev nD) : (dats m 0 c).arrAt 9 cfg0.N = outks m c := by
  refine (dats m 0 c).arrAt_eq_of_covers 9 _ (by decide +kernel) fun t _ y => ?_
  blk_simp
  rw [after0_9]
  refine congrArg (outks m c) ((eq_ix2 y).trans ((congrArg₂ ix2 (Fin.ext ?_) (Fin.ext ?_)).trans (eq_ix2 _).symm))
  · blk_simp [idx t]
  · blk_simp [idx t]

theorem arr10 (c : Dev nD) : (dats m 0 c).arrAt 10 cfg0.N = outvc m c := by
  refine (dats m 0 c).arrAt_eq_of_covers 10 _ (by decide +kernel) fun t _ y => ?_
  blk_simp
  rw [after0_10]
  refine congrArg (outvc m c) ((eq_ix2 y).trans ((congrArg₂ ix2 (Fin.ext ?_) (Fin.ext ?_)).trans (eq_ix2 _).symm))
  · blk_simp [idx t]
  · blk_simp [idx t]

theorem arr11 (c : Dev nD) : (dats m 0 c).arrAt 11 cfg0.N = outvs m c := by
  refine (dats m 0 c).arrAt_eq_of_covers 11 _ (by decide +kernel) fun t _ y => ?_
  blk_simp
  rw [after0_11]
  refine congrArg (outvs m c) ((eq_ix2 y).trans ((congrArg₂ ix2 (Fin.ext ?_) (Fin.ext ?_)).trans (eq_ix2 _).symm))
  · blk_simp [idx t]
  · blk_simp [idx t]

end Cert.QkvIdeal.Value

end

end
-- ==== Proof.QkvTail.lean ====
module

public import proofs.«01_k».proof.Proof.QkvKer

@[expose] public section

set_option maxRecDepth 16384

/-!
# The query, key and value projections: what the kernel program returns

After the kernel the host lines regroup its wide arrays by head, turn the codes into bytes and keep one lane of each step.
-/

noncomputable section
open Idealize.ShloMosaic Idealize.ShloMosaic.TcCoe Idealize.SL.Sem

namespace Cert.QkvIdeal.Value
open Cert.QkvIdeal Cert.QkvIdeal.Gen Cert.QkvForms

variable (m : (ℓ : Loc nD τ sig) → Buf (Elt Ideal) ℓ)

/-- The buffers as the kernel leaves them. -/
def left (c : Dev nD) : Valuation τ sig (Elt Ideal) :=
  Pipeline.withArrays (cfgs 0).spec c (V0 m c) fun w => (dats m 0 c).arrAt w (cfgs 0).N

theorem left_arr (c : Dev nD) (w : Fin 12) : left m c (Proc.devRef .tc (Pipeline.arrRef spec0 w)) = (dats m 0 c).arrAt w cfg0.N :=
  Pipeline.withArrays_arr spec0 launch0.win.arr_inj c (V0 m c) _ w

/-- Codes as bytes, one row of heads. -/
def bytes (x : FVec Ideal S112x256 .f32) : IVec S112x1x2x128 8 :=
  trunci 8 (fptosi 32 (shapeCast S112x1x2x128 x shapeCasts_S112x256_S112x1x2x128)) natLt_8_32
/-- The first lane of each head's steps. -/
def steps (x : FVec Ideal S112x256 .f32) : FVec Ideal S112x1x2 .f32 :=
  shapeCast S112x1x2 (extractStridedSlice S112x1x2x1 ![0, 0, 0, 0] (shapeCast S112x1x2x128 x shapeCasts_S112x256_S112x1x2x128)
    slices_S112x1x2x128_S112x1x2x1_0_0_0_0) shapeCasts_S112x1x2x1_S112x1x2

theorem bytes_at (x : FVec Ideal S112x256 .f32) (i : Fin 112) (k : Fin 2) (j : Fin 128) :
    bytes x (ix4 i 0 k j) = byte (x (ix2 i ⟨128 * k + j, by omega⟩)) := by
  pointwise [bytes]
  exact congrArg (fun z => byte (x (ix2 i z))) (Fin.ext (by dsimp only; omega))
theorem steps_at (x : FVec Ideal S112x256 .f32) (i : Fin 112) (k : Fin 2) :
    steps x (ix3 i 0 k) = x (ix2 i ⟨128 * k, by omega⟩) := by
  pointwise [steps]
  exact congrArg (fun z => x (ix2 i z)) (Fin.ext (by dsimp only; omega))

theorem tail_8 (W : Valuation τ sig (Elt Ideal)) : StableHlo.after (List.flatten [hostOps1]) W (Proc.devRef .tc main_v8)
    = bytes (W (Proc.devRef .tc main_v5_1)) := by
  simp only [hostOps1, List.flatten_cons, List.flatten_nil, List.append_nil, List.cons_append, List.nil_append]
  after_results
  rfl
theorem tail_11 (W : Valuation τ sig (Elt Ideal)) : StableHlo.after (List.flatten [hostOps1]) W (Proc.devRef .tc main_v11)
    = steps (W (Proc.devRef .tc main_v5_2)) := by
  simp only [hostOps1, List.flatten_cons, List.flatten_nil, List.append_nil, List.cons_append, List.nil_append]
  after_results
  rfl
theorem tail_14 (W : Valuation τ sig (Elt Ideal)) : StableHlo.after (List.flatten [hostOps1]) W (Proc.devRef .tc main_v14)
    = bytes (W (Proc.devRef .tc main_v5_3)) := by
  simp only [hostOps1, List.flatten_cons, List.flatten_nil, List.append_nil, List.cons_append, List.nil_append]
  after_results
  rfl
theorem tail_17 (W : Valuation τ sig (Elt Ideal)) : StableHlo.after (List.flatten [hostOps1]) W (Proc.devRef .tc main_v17)
    = steps (W (Proc.devRef .tc main_v5_4)) := by
  simp only [hostOps1, List.flatten_cons, List.flatten_nil, List.append_nil, List.cons_append, List.nil_append]
  after_results
  rfl

/-- The results. -/
theorem fin_8 (c : Dev nD) : Pipeline.afterTail₀ cfgs (dats m) 0 (V0 m) [hostOps1] c main_v8 = kcodes (a0 m c) (a1 m c) (a2 m c) (a3 m c) (a4 m c) (a5 m c) (a6 m c) := by
  refine (tail_8 (left m c)).trans ?_
  rw [show left m c (Proc.devRef .tc main_v5_1) = _ from left_arr m c 8, arr8]
  funext y
  obtain ⟨i, o, k, j, rfl⟩ : ∃ (i : Fin 112) (o : Fin 1) (k : Fin 2) (j : Fin 128), y = ix4 i o k j := ⟨y 0, y 1, y 2, y 3, eq_ix4 y⟩
  obtain rfl : o = 0 := Subsingleton.elim _ _
  exact (bytes_at _ i k j).trans (congrArg byte (outkc_at m c i k j _ (by simp)))
theorem fin_11 (c : Dev nD) : Pipeline.afterTail₀ cfgs (dats m) 0 (V0 m) [hostOps1] c main_v11 = kscales (a0 m c) (a1 m c) (a2 m c) (a3 m c) (a4 m c) (a5 m c) (a6 m c) := by
  refine (tail_11 (left m c)).trans ?_
  rw [show left m c (Proc.devRef .tc main_v5_2) = _ from left_arr m c 9, arr9]
  funext y
  obtain ⟨i, o, k, rfl⟩ : ∃ (i : Fin 112) (o : Fin 1) (k : Fin 2), y = ix3 i o k := ⟨y 0, y 1, y 2, eq_ix3 y⟩
  obtain rfl : o = 0 := Subsingleton.elim _ _
  exact (steps_at _ i k).trans ((outks_at m c i k 0 _ (by simp)))
theorem fin_14 (c : Dev nD) : Pipeline.afterTail₀ cfgs (dats m) 0 (V0 m) [hostOps1] c main_v14 = vcodes (a0 m c) (a1 m c) (a2 m c) (a3 m c) (a4 m c) := by
  refine (tail_14 (left m c)).trans ?_
  rw [show left m c (Proc.devRef .tc main_v5_3) = _ from left_arr m c 10, arr10]
  funext y
  obtain ⟨i, o, k, j, rfl⟩ : ∃ (i : Fin 112) (o : Fin 1) (k : Fin 2) (j : Fin 128), y = ix4 i o k j := ⟨y 0, y 1, y 2, y 3, eq_ix4 y⟩
  obtain rfl : o = 0 := Subsingleton.elim _ _
  exact (bytes_at _ i k j).trans (congrArg byte (outvc_at m c i k j _ (by simp)))
theorem fin_17 (c : Dev nD) : Pipeline.afterTail₀ cfgs (dats m) 0 (V0 m) [hostOps1] c main_v17 = vscales (a0 m c) (a1 m c) (a2 m c) (a3 m c) (a4 m c) := by
  refine (tail_17 (left m c)).trans ?_
  rw [show left m c (Proc.devRef .tc main_v5_4) = _ from left_arr m c 11, arr11]
  funext y
  obtain ⟨i, o, k, rfl⟩ : ∃ (i : Fin 112) (o : Fin 1) (k : Fin 2), y = ix3 i o k := ⟨y 0, y 1, y 2, eq_ix3 y⟩
  obtain rfl : o = 0 := Subsingleton.elim _ _
  exact (steps_at _ i k).trans ((outvs_at m c i k 0 _ (by simp)))

/-- The run of the program: its five results, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5_0) = queries (a0 m c) (a1 m c) (a2 m c) (a3 m c) (a4 m c) (a5 m c) (a6 m c)
      ∧ r.2.mem ((c.tc : Thread nD τ).loc main_v8) = kcodes (a0 m c) (a1 m c) (a2 m c) (a3 m c) (a4 m c) (a5 m c) (a6 m c)
      ∧ r.2.mem ((c.tc : Thread nD τ).loc main_v11) = kscales (a0 m c) (a1 m c) (a2 m c) (a3 m c) (a4 m c) (a5 m c) (a6 m c)
      ∧ r.2.mem ((c.tc : Thread nD τ).loc main_v14) = vcodes (a0 m c) (a1 m c) (a2 m c) (a3 m c) (a4 m c)
      ∧ r.2.mem ((c.tc : Thread nD τ).loc main_v17) = vscales (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans ((arr7 m c).trans (outq_eq m c)),
    ((h.1 c).2 main_v8 (by decide)).trans (fin_8 m c), ((h.1 c).2 main_v11 (by decide)).trans (fin_11 m c),
    ((h.1 c).2 main_v14 (by decide)).trans (fin_14 m c), ((h.1 c).2 main_v17 (by decide)).trans (fin_17 m c), h.2 c⟩)
    (θ_run_and (run_main m ρ) (unchanged m ρ))

end Cert.QkvIdeal.Value

end

end
-- ==== Proof.QkvRef.lean ====
module

public import proofs.«01_k».proof.Proof.QkvForms
public import proofs.«01_k».proof.Proof.Gen.QkvRefIdeal.Run

@[expose] public section

set_option maxRecDepth 16384

/-!
# The reference of the query, key and value projections

The composed terms of the reference's results, restated in named pieces and read at an index.
-/

noncomputable section
open Idealize.ShloMosaic Idealize.ShloMosaic.TcCoe Idealize.SL.Sem

namespace Cert.QkvRefIdeal.Value
open Cert.QkvRefIdeal Cert.QkvRefIdeal.Gen Cert.QkvForms

variable {F : FTy → Type} [FloatOps F]

/-- The dequantized rows of one nibble, `sh` its first bit: the codes less 8, times the scales of their groups. -/
def rows (sh : BitVec 32) (q : IVec S1024x2560 32) (s : FVec F S64x2560 .bf16) : FVec F S1024x2560 .bf16 :=
  shapeCast _ (mulf
    (shapeCast _ (sitofp .bf16 (subi (andi
      (Host.shrsi q (broadcastInDim S1024x2560 ![] bcast_S_S1024x2560 (constantI S_ 32 sh)))
      (broadcastInDim S1024x2560 ![] bcast_S_S1024x2560 (constantI S_ 32 15#32)))
      (broadcastInDim S1024x2560 ![] bcast_S_S1024x2560 (constantI S_ 32 8#32)))) shapeCasts_S1024x2560_S64x16x2560)
    (broadcastInDim S64x16x2560 ![0, 1, 2] bcast_S64x1x2560_S64x16x2560_0_1_2
      (broadcastInDim S64x1x2560 ![0, 2] bcast_S64x2560_S64x1x2560_0_2 s))) shapeCasts_S64x16x2560_S1024x2560

/-- A dequantized row at a column. -/
theorem rows_at (sh : BitVec 32) (q : IVec S1024x2560 32) (s : FVec Ideal S64x2560 .bf16) (k : Fin 1024) (l : Fin 2560) :
    rows sh q s (ix2 k l) = Codes.num (Codes.refCode (q (ix2 k l)) sh) * s (ix2 ⟨k / 16, by omega⟩ l) := by
  pointwise [rows]
  rfl

/-- One nibble's contraction. -/
def dot (a : FVec F S112x1024 .bf16) (w : FVec F S1024x2560 .bf16) : FVec F S112x2560 .f32 :=
  Host.dotGeneral dot_S112x1024_S1024x2560_S112x2560_1_0_0_1_n_n none a w

/-- The product with the dequantized weights: the eight nibbles' contractions, added in order. -/
def product (a : FVec F S112x8192 .bf16) (q : IVec S1024x2560 32) (s : FVec F S64x2560 .bf16) : FVec F S112x2560 .f32 :=
  addf (addf (addf (addf (addf (addf (addf
    (dot (Host.slice S112x1024 ![0, 0] ![1, 8] a slicesBy_S112x8192_S112x1024_0s1_0s8) (rows 0#32 q s))
    (dot (Host.slice S112x1024 ![0, 1] ![1, 8] a slicesBy_S112x8192_S112x1024_0s1_1s8) (rows 4#32 q s)))
    (dot (Host.slice S112x1024 ![0, 2] ![1, 8] a slicesBy_S112x8192_S112x1024_0s1_2s8) (rows 8#32 q s)))
    (dot (Host.slice S112x1024 ![0, 3] ![1, 8] a slicesBy_S112x8192_S112x1024_0s1_3s8) (rows 12#32 q s)))
    (dot (Host.slice S112x1024 ![0, 4] ![1, 8] a slicesBy_S112x8192_S112x1024_0s1_4s8) (rows 16#32 q s)))
    (dot (Host.slice S112x1024 ![0, 5] ![1, 8] a slicesBy_S112x8192_S112x1024_0s1_5s8) (rows 20#32 q s)))
    (dot (Host.slice S112x1024 ![0, 6] ![1, 8] a slicesBy_S112x8192_S112x1024_0s1_6s8) (rows 24#32 q s)))
    (dot (Host.slice S112x1024 ![0, 7] ![1, 8] a slicesBy_S112x8192_S112x1024_0s1_7s8) (rows 28#32 q s))

/-- The product at an index: the sum of the eight parts. -/
theorem product_at (a : FVec Ideal S112x8192 .bf16) (q : IVec S1024x2560 32) (s : FVec Ideal S64x2560 .bf16) (i : Fin 112)
    (l : Fin 2560) :
    product a q s (ix2 i l) = ∑ x : Fin 8192, a (ix2 i x) * (Codes.num (Codes.code (q (ix2 ⟨x / 8, by omega⟩ l)) (x % 8))
      * s (ix2 ⟨x / 128, by omega⟩ l)) := by
  refine Eq.trans ?_ (Codes.sum_codes (K := 8192) (Kp := 1024) (G := 64) rfl rfl (fun k => a (ix2 i k))
    (fun r => q (ix2 r l)) (fun g => s (ix2 g l))).symm
  rw [Codes.part_zero]
  pointwise [product, dot, rows_at]
  rfl

/-- The normalized input rows, scaled by the gains. -/
def normed (x : FVec F S112x1x8192 .bf16) (g : FVec F S8192 .f32) : FVec F S112x8192 .bf16 :=
  shapeCast _ (truncf .bf16 (mulf (Host.divf (extf .f32 x bitsLt_bf16_f32) (broadcastInDim S112x1x8192 ![0, 1, 2] bcast_S112x1x1_S112x1x8192_0_1_2
    (Host.sqrt (addf (Host.divf (broadcastInDim S112x1x1 ![0, 1] bcast_S112x1_S112x1x1_0_1
      (Host.reduceAdd (mulf (extf .f32 x bitsLt_bf16_f32) (extf .f32 x bitsLt_bf16_f32)) (constant S_ .f32 0x00000000#32) reducesTo_S112x1x8192_S112x1_d2 h_S_))
      (broadcastInDim S112x1x1 ![] bcast_S_S112x1x1 (constant S_ .f32 0x46000000#32)))
      (broadcastInDim S112x1x1 ![] bcast_S_S112x1x1 (constant S_ .f32 0x358637BD#32))))))
    (broadcastInDim S112x1x8192 ![0, 1, 2] bcast_S1x1x8192_S112x1x8192_0_1_2 (broadcastInDim S1x1x8192 ![2] bcast_S8192_S1x1x8192_2 g)))
    bitsLt_bf16_f32) shapeCasts_S112x1x8192_S112x8192

/-- A normalized row at a column. -/
theorem normed_at (x : FVec Ideal S112x1x8192 .bf16) (g : FVec Ideal S8192 .f32) (i : Fin 112) (k : Fin 8192) :
    normed x g (ix2 i k) = QkvForms.norm (fun l => x (ix3 i 0 l)) (fun l => g (ix1 l)) k := by
  pointwise [normed]
  rfl

/-- The projections with their bias. -/
def biased (p : FVec F S112x2560 .f32) (b : FVec F S2560 .f32) : FVec F S112x1x2560 .f32 :=
  shapeCast _ (addf p (broadcastInDim S112x2560 ![0, 1] bcast_S1x2560_S112x2560_0_1 (broadcastInDim S1x2560 ![1] bcast_S2560_S1x2560_1 b)))
    shapeCasts_S112x2560_S112x1x2560

theorem biased_at (p : FVec Ideal S112x2560 .f32) (b : FVec Ideal S2560 .f32) (i : Fin 112) (l : Fin 2560) :
    biased p b (ix3 i 0 l) = p (ix2 i l) + b (ix1 l) := by
  pointwise [biased]

/-- The query heads, -/
def qheads (w : FVec F S112x1x2560 .f32) : FVec F S112x1x16x128 .f32 :=
  shapeCast _ (extractStridedSlice S112x1x2048 ![0, 0, 0] w slices_S112x1x2560_S112x1x2048_0_0_0) shapeCasts_S112x1x2048_S112x1x16x128
/-- the key heads, -/
def kheads (w : FVec F S112x1x2560 .f32) : FVec F S112x1x2x128 .f32 :=
  shapeCast _ (extractStridedSlice S112x1x256 ![0, 0, 2048] w slices_S112x1x2560_S112x1x256_0_0_2048) shapeCasts_S112x1x256_S112x1x2x128
/-- the value heads. -/
def vheads (w : FVec F S112x1x2560 .f32) : FVec F S112x1x2x128 .f32 :=
  shapeCast _ (extractStridedSlice S112x1x256 ![0, 0, 2304] w slices_S112x1x2560_S112x1x256_0_0_2304) shapeCasts_S112x1x256_S112x1x2x128

theorem qheads_at (w : FVec Ideal S112x1x2560 .f32) (i : Fin 112) (k : Fin 16) (j : Fin 128) :
    qheads w (ix4 i 0 k j) = w (ix3 i 0 ⟨128 * k + j, by omega⟩) := by
  pointwise [qheads]
  exact congrArg (fun z => w (ix3 i 0 z)) (Fin.ext (by dsimp only; omega))
theorem kheads_at (w : FVec Ideal S112x1x2560 .f32) (i : Fin 112) (k : Fin 2) (j : Fin 128) :
    kheads w (ix4 i 0 k j) = w (ix3 i 0 ⟨128 * (16 + k) + j, by omega⟩) := by
  pointwise [kheads]
  exact congrArg (fun z => w (ix3 i 0 z)) (Fin.ext (by dsimp only; omega))
theorem vheads_at (w : FVec Ideal S112x1x2560 .f32) (i : Fin 112) (k : Fin 2) (j : Fin 128) :
    vheads w (ix4 i 0 k j) = w (ix3 i 0 ⟨128 * (18 + k) + j, by omega⟩) := by
  pointwise [vheads]
  exact congrArg (fun z => w (ix3 i 0 z)) (Fin.ext (by dsimp only; omega))

/-- Heads, rotated. -/
def qturned (t : FVec F S112x1x16x128 .f32) (cs sn : FVec F S112x1x64 .f32) : FVec F S112x1x16x128 .f32 :=
  concatenate S112x1x16x128 3 [⟨S112x1x16x64, subf (mulf (extractStridedSlice S112x1x16x64 ![0, 0, 0, 0] t slices_S112x1x16x128_S112x1x16x64_0_0_0_0) (broadcastInDim S112x1x16x64 ![0, 1, 2, 3] bcast_S112x1x1x64_S112x1x16x64_0_1_2_3 (broadcastInDim S112x1x1x64 ![0, 1, 3] bcast_S112x1x64_S112x1x1x64_0_1_3 cs)))
      (mulf (extractStridedSlice S112x1x16x64 ![0, 0, 0, 64] t slices_S112x1x16x128_S112x1x16x64_0_0_0_64) (broadcastInDim S112x1x16x64 ![0, 1, 2, 3] bcast_S112x1x1x64_S112x1x16x64_0_1_2_3 (broadcastInDim S112x1x1x64 ![0, 1, 3] bcast_S112x1x64_S112x1x1x64_0_1_3 sn)))⟩,
    ⟨S112x1x16x64, addf (mulf (extractStridedSlice S112x1x16x64 ![0, 0, 0, 64] t slices_S112x1x16x128_S112x1x16x64_0_0_0_64) (broadcastInDim S112x1x16x64 ![0, 1, 2, 3] bcast_S112x1x1x64_S112x1x16x64_0_1_2_3 (broadcastInDim S112x1x1x64 ![0, 1, 3] bcast_S112x1x64_S112x1x1x64_0_1_3 cs)))
      (mulf (extractStridedSlice S112x1x16x64 ![0, 0, 0, 0] t slices_S112x1x16x128_S112x1x16x64_0_0_0_0) (broadcastInDim S112x1x16x64 ![0, 1, 2, 3] bcast_S112x1x1x64_S112x1x16x64_0_1_2_3 (broadcastInDim S112x1x1x64 ![0, 1, 3] bcast_S112x1x64_S112x1x1x64_0_1_3 sn)))⟩]
    concatenates_S112x1x16x64_S112x1x16x64_S112x1x16x128_d3

theorem qturned_at (t : FVec Ideal S112x1x16x128 .f32) (cs sn : FVec Ideal S112x1x64 .f32) (i : Fin 112) (k : Fin 16) (j : Fin 128) :
    qturned t cs sn (ix4 i 0 k j) = rope (fun j => t (ix4 i 0 k j)) (fun l => cs (ix3 i 0 l)) (fun l => sn (ix3 i 0 l)) j := by
  unfold rope
  split
  · rename_i h
    pointwise [qturned]
    rw [dif_pos h]
    exact congrArg (fun z => t (ix4 i 0 k j) * cs (ix3 i 0 ⟨j, h⟩) - t (ix4 i 0 k z) * sn (ix3 i 0 ⟨j, h⟩))
      (Fin.ext (Nat.add_comm 64 j))
  · rename_i h
    pointwise [qturned]
    rw [dif_neg h]
    exact congrArg (fun z => t (ix4 i 0 k z) * cs (ix3 i 0 ⟨j - 64, by omega⟩)
      + t (ix4 i 0 k ⟨j - 64, by omega⟩) * sn (ix3 i 0 ⟨j - 64, by omega⟩)) (Fin.ext (by dsimp only; omega))

/-- Heads, rotated. -/
def kturned (t : FVec F S112x1x2x128 .f32) (cs sn : FVec F S112x1x64 .f32) : FVec F S112x1x2x128 .f32 :=
  concatenate S112x1x2x128 3 [⟨S112x1x2x64, subf (mulf (extractStridedSlice S112x1x2x64 ![0, 0, 0, 0] t slices_S112x1x2x128_S112x1x2x64_0_0_0_0) (broadcastInDim S112x1x2x64 ![0, 1, 2, 3] bcast_S112x1x1x64_S112x1x2x64_0_1_2_3 (broadcastInDim S112x1x1x64 ![0, 1, 3] bcast_S112x1x64_S112x1x1x64_0_1_3 cs)))
      (mulf (extractStridedSlice S112x1x2x64 ![0, 0, 0, 64] t slices_S112x1x2x128_S112x1x2x64_0_0_0_64) (broadcastInDim S112x1x2x64 ![0, 1, 2, 3] bcast_S112x1x1x64_S112x1x2x64_0_1_2_3 (broadcastInDim S112x1x1x64 ![0, 1, 3] bcast_S112x1x64_S112x1x1x64_0_1_3 sn)))⟩,
    ⟨S112x1x2x64, addf (mulf (extractStridedSlice S112x1x2x64 ![0, 0, 0, 64] t slices_S112x1x2x128_S112x1x2x64_0_0_0_64) (broadcastInDim S112x1x2x64 ![0, 1, 2, 3] bcast_S112x1x1x64_S112x1x2x64_0_1_2_3 (broadcastInDim S112x1x1x64 ![0, 1, 3] bcast_S112x1x64_S112x1x1x64_0_1_3 cs)))
      (mulf (extractStridedSlice S112x1x2x64 ![0, 0, 0, 0] t slices_S112x1x2x128_S112x1x2x64_0_0_0_0) (broadcastInDim S112x1x2x64 ![0, 1, 2, 3] bcast_S112x1x1x64_S112x1x2x64_0_1_2_3 (broadcastInDim S112x1x1x64 ![0, 1, 3] bcast_S112x1x64_S112x1x1x64_0_1_3 sn)))⟩]
    concatenates_S112x1x2x64_S112x1x2x64_S112x1x2x128_d3

theorem kturned_at (t : FVec Ideal S112x1x2x128 .f32) (cs sn : FVec Ideal S112x1x64 .f32) (i : Fin 112) (k : Fin 2) (j : Fin 128) :
    kturned t cs sn (ix4 i 0 k j) = rope (fun j => t (ix4 i 0 k j)) (fun l => cs (ix3 i 0 l)) (fun l => sn (ix3 i 0 l)) j := by
  unfold rope
  split
  · rename_i h
    pointwise [kturned]
    rw [dif_pos h]
    exact congrArg (fun z => t (ix4 i 0 k j) * cs (ix3 i 0 ⟨j, h⟩) - t (ix4 i 0 k z) * sn (ix3 i 0 ⟨j, h⟩))
      (Fin.ext (Nat.add_comm 64 j))
  · rename_i h
    pointwise [kturned]
    rw [dif_neg h]
    exact congrArg (fun z => t (ix4 i 0 k z) * cs (ix3 i 0 ⟨j - 64, by omega⟩)
      + t (ix4 i 0 k ⟨j - 64, by omega⟩) * sn (ix3 i 0 ⟨j - 64, by omega⟩)) (Fin.ext (by dsimp only; omega))

/-- The largest magnitudes of the heads, -/
def amaxes (t : FVec F S112x1x2x128 .f32) : FVec F S112x1x2 .f32 :=
  Host.reduce FloatOps.maximumf (Host.absf t) (constant S_ .f32 0xFF800000#32) reducesTo_S112x1x2x128_S112x1x2_d3 h_S_
/-- their quantization steps, -/
def scales (t : FVec F S112x1x2x128 .f32) : FVec F S112x1x2 .f32 :=
  select (cmpf .oeq (amaxes t) (broadcastInDim S112x1x2 ![] bcast_S_S112x1x2 (constant S_ .f32 0x00000000#32)))
    (broadcastInDim S112x1x2 ![] bcast_S_S112x1x2 (constant S_ .f32 0x3F800000#32))
    (Host.divf (amaxes t) (broadcastInDim S112x1x2 ![] bcast_S_S112x1x2 (constant S_ .f32 0x42FE0000#32)))
/-- and their codes. -/
def codes (t : FVec F S112x1x2x128 .f32) : IVec S112x1x2x128 8 :=
  trunci 8 (fptosi 32 (minimumf (broadcastInDim S112x1x2x128 ![] bcast_S_S112x1x2x128 (sitofp .f32 (constantI S_ 32 127#32)))
    (maximumf (broadcastInDim S112x1x2x128 ![] bcast_S_S112x1x2x128 (sitofp .f32 (constantI S_ 32 4294967169#32)))
      (Host.roundeven (Host.divf t (broadcastInDim S112x1x2x128 ![0, 1, 2, 3] bcast_S112x1x2x1_S112x1x2x128_0_1_2_3
        (broadcastInDim S112x1x2x1 ![0, 1, 2] bcast_S112x1x2_S112x1x2x1_0_1_2 (scales t)))))))) natLt_8_32

theorem amaxes_at (t : FVec Ideal S112x1x2x128 .f32) (i : Fin 112) (k : Fin 2) :
    amaxes t (ix3 i 0 k) = amax fun j => t (ix4 i 0 k j) := by
  pointwise [amaxes]
  rfl
theorem scales_at (t : FVec Ideal S112x1x2x128 .f32) (i : Fin 112) (k : Fin 2) :
    scales t (ix3 i 0 k) = scale fun j => t (ix4 i 0 k j) := by
  unfold scale
  pointwise [scales, amaxes_at]
theorem codes_at (t : FVec Ideal S112x1x2x128 .f32) (i : Fin 112) (k : Fin 2) (j : Fin 128) :
    codes t (ix4 i 0 k j) = byte (code (fun j => t (ix4 i 0 k j)) j) := by
  unfold byte code
  pointwise [codes, scales_at]

/-! ## The reference's results -/

/-- The projections of the normalized rows. -/
def wide (x : FVec F S112x1x8192 .bf16) (g : FVec F S8192 .f32) (q : IVec S1024x2560 32) (s : FVec F S64x2560 .bf16)
    (b : FVec F S2560 .f32) : FVec F S112x1x2560 .f32 :=
  biased (product (normed x g) q s) b

section Forms
variable (x : FVec Ideal S112x1x8192 .bf16) (g : FVec Ideal S8192 .f32) (q : IVec S1024x2560 32) (s : FVec Ideal S64x2560 .bf16)
  (b : FVec Ideal S2560 .f32) (cs sn : FVec Ideal S112x1x64 .f32)

theorem wide_at (i : Fin 112) (l : Fin 2560) : wide x g q s b (ix3 i 0 l) = proj (fun l => x (ix3 i 0 l)) (fun l => g (ix1 l))
    (fun r => q (ix2 r l)) (fun r => s (ix2 r l)) (b (ix1 l)) := by
  refine (biased_at _ _ i l).trans ?_
  rw [product_at]
  simp only [normed_at]
  rfl

theorem qhead_at (i : Fin 112) (k : Fin 16) (j : Fin 128) :
    qheads (wide x g q s b) (ix4 i 0 k j) = head x g q s b i k (by omega) j :=
  (qheads_at _ i k j).trans (wide_at x g q s b i _)
theorem khead_at (i : Fin 112) (k : Fin 2) (j : Fin 128) :
    kheads (wide x g q s b) (ix4 i 0 k j) = head x g q s b i (16 + k) (by omega) j :=
  (kheads_at _ i k j).trans (wide_at x g q s b i _)
theorem vhead_at (i : Fin 112) (k : Fin 2) (j : Fin 128) :
    vheads (wide x g q s b) (ix4 i 0 k j) = head x g q s b i (18 + k) (by omega) j :=
  (vheads_at _ i k j).trans (wide_at x g q s b i _)

theorem kturned_head_at (i : Fin 112) (k : Fin 2) (j : Fin 128) :
    kturned (kheads (wide x g q s b)) cs sn (ix4 i 0 k j) = turned x g q s b cs sn i (16 + k) (by omega) j := by
  rw [kturned_at]
  simp only [khead_at]
  rfl

/-- The queries, -/
theorem queries_eq : shapeCast S112x2048 (truncf .bf16 (qturned (qheads (wide x g q s b)) cs sn) bitsLt_bf16_f32)
    shapeCasts_S112x1x16x128_S112x2048 = queries x g q s b cs sn := by
  funext y
  obtain ⟨i, l, rfl⟩ : ∃ (i : Fin 112) (l : Fin 2048), y = ix2 i l := ⟨y 0, y 1, eq_ix2 y⟩
  refine Eq.trans (b := qturned (qheads (wide x g q s b)) cs sn (ix4 i 0 ⟨l / 128, by omega⟩ ⟨l % 128, by omega⟩)) ?_ ?_
  · pointwise
  · rw [qturned_at]
    simp only [qhead_at]
    rfl
/-- the keys' codes, -/
theorem kcodes_eq : codes (kturned (kheads (wide x g q s b)) cs sn) = kcodes x g q s b cs sn := by
  funext y
  obtain ⟨i, o, k, j, rfl⟩ : ∃ (i : Fin 112) (o : Fin 1) (k : Fin 2) (j : Fin 128), y = ix4 i o k j := ⟨y 0, y 1, y 2, y 3, eq_ix4 y⟩
  obtain rfl : o = 0 := Subsingleton.elim _ _
  rw [codes_at]
  simp only [kturned_head_at]
  rfl
/-- their steps, -/
theorem kscales_eq : scales (kturned (kheads (wide x g q s b)) cs sn) = kscales x g q s b cs sn := by
  funext y
  obtain ⟨i, o, k, rfl⟩ : ∃ (i : Fin 112) (o : Fin 1) (k : Fin 2), y = ix3 i o k := ⟨y 0, y 1, y 2, eq_ix3 y⟩
  obtain rfl : o = 0 := Subsingleton.elim _ _
  rw [scales_at]
  simp only [kturned_head_at]
  rfl
/-- the values' codes, -/
theorem vcodes_eq : codes (vheads (wide x g q s b)) = vcodes x g q s b := by
  funext y
  obtain ⟨i, o, k, j, rfl⟩ : ∃ (i : Fin 112) (o : Fin 1) (k : Fin 2) (j : Fin 128), y = ix4 i o k j := ⟨y 0, y 1, y 2, y 3, eq_ix4 y⟩
  obtain rfl : o = 0 := Subsingleton.elim _ _
  rw [codes_at]
  simp only [vhead_at]
  rfl
/-- their steps. -/
theorem vscales_eq : scales (vheads (wide x g q s b)) = vscales x g q s b := by
  funext y
  obtain ⟨i, o, k, rfl⟩ : ∃ (i : Fin 112) (o : Fin 1) (k : Fin 2), y = ix3 i o k := ⟨y 0, y 1, y 2, eq_ix3 y⟩
  obtain rfl : o = 0 := Subsingleton.elim _ _
  rw [scales_at]
  simp only [vhead_at]
  rfl
end Forms

section Terms
variable (V : Valuation τ sig (Elt F))

/-- The composed terms are these pieces. -/
theorem v15_eq : res_main_v15 V = normed (F := F) (V (Proc.devRef .tc main_arg0)) (V (Proc.devRef .tc main_arg1)) := rfl
theorem v138_eq : res_main_v138 V = wide (F := F) (V (Proc.devRef .tc main_arg0)) (V (Proc.devRef .tc main_arg1)) (V (Proc.devRef .tc main_arg2)) (V (Proc.devRef .tc main_arg3)) (V (Proc.devRef .tc main_arg4)) := by
  refine Eq.trans (b := biased (product (res_main_v15 V) (V (Proc.devRef .tc main_arg2)) (V (Proc.devRef .tc main_arg3))) (V (Proc.devRef .tc main_arg4))) rfl ?_
  rw [v15_eq]
  rfl
theorem v140_eq : res_main_v140 V = qheads (wide (F := F) (V (Proc.devRef .tc main_arg0)) (V (Proc.devRef .tc main_arg1)) (V (Proc.devRef .tc main_arg2)) (V (Proc.devRef .tc main_arg3)) (V (Proc.devRef .tc main_arg4))) := congrArg qheads (v138_eq V)
theorem v142_eq : res_main_v142 V = kheads (wide (F := F) (V (Proc.devRef .tc main_arg0)) (V (Proc.devRef .tc main_arg1)) (V (Proc.devRef .tc main_arg2)) (V (Proc.devRef .tc main_arg3)) (V (Proc.devRef .tc main_arg4))) := congrArg kheads (v138_eq V)
theorem v144_eq : res_main_v144 V = vheads (wide (F := F) (V (Proc.devRef .tc main_arg0)) (V (Proc.devRef .tc main_arg1)) (V (Proc.devRef .tc main_arg2)) (V (Proc.devRef .tc main_arg3)) (V (Proc.devRef .tc main_arg4))) := congrArg vheads (v138_eq V)
theorem v174_eq : res_main_v174 V = kturned (kheads (wide (F := F) (V (Proc.devRef .tc main_arg0)) (V (Proc.devRef .tc main_arg1)) (V (Proc.devRef .tc main_arg2)) (V (Proc.devRef .tc main_arg3)) (V (Proc.devRef .tc main_arg4)))) (V (Proc.devRef .tc main_arg5)) (V (Proc.devRef .tc main_arg6)) := by
  refine Eq.trans (b := kturned (res_main_v142 V) (V (Proc.devRef .tc main_arg5)) (V (Proc.devRef .tc main_arg6))) rfl ?_
  rw [v142_eq]
theorem v181_eq : res_main_v181 V = scales (kturned (kheads (wide (F := F) (V (Proc.devRef .tc main_arg0)) (V (Proc.devRef .tc main_arg1)) (V (Proc.devRef .tc main_arg2)) (V (Proc.devRef .tc main_arg3)) (V (Proc.devRef .tc main_arg4)))) (V (Proc.devRef .tc main_arg5)) (V (Proc.devRef .tc main_arg6))) := by
  refine Eq.trans (b := scales (res_main_v174 V)) rfl ?_
  rw [v174_eq]
theorem v196_eq : res_main_v196 V = scales (vheads (wide (F := F) (V (Proc.devRef .tc main_arg0)) (V (Proc.devRef .tc main_arg1)) (V (Proc.devRef .tc main_arg2)) (V (Proc.devRef .tc main_arg3)) (V (Proc.devRef .tc main_arg4)))) := by
  refine Eq.trans (b := scales (res_main_v144 V)) rfl ?_
  rw [v144_eq]
end Terms

set_option maxHeartbeats 1000000 in
/-- The run of the reference: its five results, the arguments unchanged. -/
theorem run_forms (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v206) = queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v189_0) = kcodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v189_1) = kscales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v204_0) = vcodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v204_1) = vscales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run m ρ)
  obtain ⟨h0, h1, h2, h3, h4, h5⟩ := h c
  refine ⟨h0.trans ?_, h1.trans ?_, h2.trans ?_, h3.trans ?_, h4.trans ?_, h5⟩
  · refine Eq.trans (b := shapeCast S112x2048 (truncf .bf16 (qturned (res_main_v140 (StableHlo.launchContents m c)) (m ((c.tc : Thread nD τ).loc main_arg5))
      (m ((c.tc : Thread nD τ).loc main_arg6))) bitsLt_bf16_f32) shapeCasts_S112x1x16x128_S112x2048) rfl ?_
    rw [v140_eq]
    exact queries_eq _ _ _ _ _ _ _
  · refine Eq.trans (b := codes (res_main_v174 (StableHlo.launchContents m c))) rfl ?_
    rw [v174_eq]
    exact kcodes_eq _ _ _ _ _ _ _
  · refine (id_eq _).trans ?_
    rw [v181_eq]
    exact kscales_eq _ _ _ _ _ _ _
  · refine Eq.trans (b := codes (res_main_v144 (StableHlo.launchContents m c))) rfl ?_
    rw [v144_eq]
    exact vcodes_eq _ _ _ _ _
  · refine (id_eq _).trans ?_
    rw [v196_eq]
    exact vscales_eq _ _ _ _ _

end Cert.QkvRefIdeal.Value

end

end
-- ==== Proof.QkvEq.lean ====
module

public import proofs.«01_k».proof.Defs
public import proofs.«01_k».proof.Proof.QkvTail
public import proofs.«01_k».proof.Proof.QkvRef

/-! The query, key and value projections: the kernel program's five results are the reference's. -/

@[expose] public section

set_option maxRecDepth 16384

noncomputable section

namespace Cert.QkvEq

open Idealize.ShloMosaic Idealize.ShloMosaic.TcCoe Idealize.SL.Sem

/-- Both programs end with the same five arrays of the arguments. -/
theorem algebraic : Cert.algebraic_QkvIdeal_QkvRefIdeal := by
  pair_intro
  · run_from Cert.QkvIdeal.Value.run m g
  · run_from Cert.QkvRefIdeal.Value.run_forms m' g'
    all_goals
      obtain ⟨h0, h1, h2, h3, h4, h5, h6⟩ := hagree c
      simp only [h0, h1, h2, h3, h4, h5, h6]

end Cert.QkvEq

end

end
-- ==== Proof.WoKer.lean ====
module

public import proofs.«01_k».proof.Proof.Codes
public import proofs.«01_k».proof.Proof.Gen.WoIdeal.Value

@[expose] public section

set_option maxRecDepth 16384

/-!
# The output projection: what the kernel computes
-/

noncomputable section
open Idealize.ShloMosaic Idealize.ShloMosaic.TcCoe Idealize.SL.Sem

namespace Cert.WoIdeal.Value
open Cert.WoIdeal Cert.WoIdeal.Gen

variable (m : (ℓ : Loc nD τ sig) → Buf (Elt Ideal) ℓ)

/-- The windows' block indices: every block is the one of the point's columns, but the left operand's, which is whole. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- What a point stores, at an index: the residual plus the contraction with the dequantized weights. -/
theorem pay_at (q : Vec Ideal S256x1024 .i32) (s : Vec Ideal S16x1024 .bf16) (x : Vec Ideal S112x1024 .bf16)
    (a : Vec Ideal S112x2048 .bf16) (i : Fin 112) (l : Fin 1024) :
    k0_pay1 (F := Ideal) q s x a (ix2 i l) = (x (ix2 i l) : EReal) + ∑ k : Fin 2048, (a (ix2 i k) : EReal)
      * (Codes.num (Codes.code (q (ix2 ⟨k / 8, by omega⟩ l)) (k % 8)) * (s (ix2 ⟨k / 128, by omega⟩ l) : EReal)) := by
  pointwise [k0_pay1]
  rfl

/-- The output array at an index. -/
def G (a : FVec Ideal S112x1x2048 .bf16) (x : FVec Ideal S112x1x8192 .bf16) (q : IVec S256x8192 32)
    (s : FVec Ideal S16x8192 .bf16) : FVec Ideal S112x8192 .f32 := fun j =>
  x (ix3 (j 0) 0 (j 1)) + ∑ k : Fin 2048, a (ix3 (j 0) 0 k)
    * (Codes.num (Codes.code (q (ix2 ⟨k / 8, by omega⟩ (j 1))) (k % 8)) * s (ix2 ⟨k / 128, by omega⟩ (j 1)))

/-- What point `t` stores is block `t` of `G`. -/
theorem point (c : Dev nD) (t : Fin cfg0.N) (y : S112x1024.Idx) :
    out0_4 (F := Ideal) (iblk m c 0 t) (iblk m c 1 t) (iblk m c 2 t) (iblk m c 3 t) y
      = G (m ((c : Thread nD τ).loc main_arg0)) (m ((c : Thread nD τ).loc main_arg1)) (m ((c : Thread nD τ).loc main_arg2))
          (m ((c : Thread nD τ).loc main_arg3)) (((cfg0.win 4).blk t).view.emb y) := by
  unfold out0_4
  frame_out
  refine (congrArg _ (eq_ix2 y)).trans ((pay_at _ _ _ _ (y 0) (y 1)).trans ?_)
  unfold G
  blk_point [iblk, V, idx t]

/-- The output array after the run. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  exact point m c t y

end Cert.WoIdeal.Value

end
-- ==== Proof.WoRef.lean ====
module

public import proofs.«01_k».proof.Proof.Codes
public import proofs.«01_k».proof.Proof.Gen.WoRefIdeal.Run

@[expose] public section

set_option maxRecDepth 16384

/-!
# The reference of the output projection

The composed term of the reference's results, restated in named pieces and read at an index: the eight contractions over
one nibble's rows each are `Codes.part`.
-/

noncomputable section
open Idealize.ShloMosaic Idealize.ShloMosaic.TcCoe Idealize.SL.Sem

namespace Cert.WoRefIdeal.Value
open Cert.WoRefIdeal Cert.WoRefIdeal.Gen

variable {F : FTy → Type} [FloatOps F]

/-- The dequantized rows of one nibble, `sh` its first bit: the codes less 8, times the scales of their groups. -/
def rows (sh : BitVec 32) (q : IVec S256x8192 32) (s : FVec F S16x8192 .bf16) : FVec F S256x8192 .bf16 :=
  shapeCast _ (mulf
    (shapeCast _ (sitofp .bf16 (subi (andi
      (Host.shrsi q (broadcastInDim S256x8192 ![] bcast_S_S256x8192 (constantI S_ 32 sh)))
      (broadcastInDim S256x8192 ![] bcast_S_S256x8192 (constantI S_ 32 15#32)))
      (broadcastInDim S256x8192 ![] bcast_S_S256x8192 (constantI S_ 32 8#32)))) shapeCasts_S256x8192_S16x16x8192)
    (broadcastInDim S16x16x8192 ![0, 1, 2] bcast_S16x1x8192_S16x16x8192_0_1_2
      (broadcastInDim S16x1x8192 ![0, 2] bcast_S16x8192_S16x1x8192_0_2 s))) shapeCasts_S16x16x8192_S256x8192

/-- A dequantized row at a column. -/
theorem rows_at (sh : BitVec 32) (q : IVec S256x8192 32) (s : FVec Ideal S16x8192 .bf16) (k : Fin 256) (l : Fin 8192) :
    rows sh q s (ix2 k l) = Codes.num (Codes.refCode (q (ix2 k l)) sh) * s (ix2 ⟨k / 16, by omega⟩ l) := by
  pointwise [rows]
  rfl

/-- One nibble's contraction. -/
def dot (a : FVec F S112x256 .bf16) (w : FVec F S256x8192 .bf16) : FVec F S112x8192 .f32 :=
  Host.dotGeneral dot_S112x256_S256x8192_S112x8192_1_0_0_1_n_n none a w

/-- The product with the dequantized weights: the eight nibbles' contractions, added in order. -/
def product (a : FVec F S112x2048 .bf16) (q : IVec S256x8192 32) (s : FVec F S16x8192 .bf16) : FVec F S112x8192 .f32 :=
  addf (addf (addf (addf (addf (addf (addf
    (dot (Host.slice S112x256 ![0, 0] ![1, 8] a slicesBy_S112x2048_S112x256_0s1_0s8) (rows 0#32 q s))
    (dot (Host.slice S112x256 ![0, 1] ![1, 8] a slicesBy_S112x2048_S112x256_0s1_1s8) (rows 4#32 q s)))
    (dot (Host.slice S112x256 ![0, 2] ![1, 8] a slicesBy_S112x2048_S112x256_0s1_2s8) (rows 8#32 q s)))
    (dot (Host.slice S112x256 ![0, 3] ![1, 8] a slicesBy_S112x2048_S112x256_0s1_3s8) (rows 12#32 q s)))
    (dot (Host.slice S112x256 ![0, 4] ![1, 8] a slicesBy_S112x2048_S112x256_0s1_4s8) (rows 16#32 q s)))
    (dot (Host.slice S112x256 ![0, 5] ![1, 8] a slicesBy_S112x2048_S112x256_0s1_5s8) (rows 20#32 q s)))
    (dot (Host.slice S112x256 ![0, 6] ![1, 8] a slicesBy_S112x2048_S112x256_0s1_6s8) (rows 24#32 q s)))
    (dot (Host.slice S112x256 ![0, 7] ![1, 8] a slicesBy_S112x2048_S112x256_0s1_7s8) (rows 28#32 q s))

/-- The product at an index: the sum of the eight parts. -/
theorem product_at (a : FVec Ideal S112x2048 .bf16) (q : IVec S256x8192 32) (s : FVec Ideal S16x8192 .bf16) (i : Fin 112)
    (l : Fin 8192) :
    product a q s (ix2 i l) = ∑ x : Fin 2048, a (ix2 i x) * (Codes.num (Codes.code (q (ix2 ⟨x / 8, by omega⟩ l)) (x % 8))
      * s (ix2 ⟨x / 128, by omega⟩ l)) := by
  refine Eq.trans ?_ (Codes.sum_codes (K := 2048) (Kp := 256) (G := 16) rfl rfl (fun k => a (ix2 i k))
    (fun r => q (ix2 r l)) (fun g => s (ix2 g l))).symm
  rw [Codes.part_zero]
  pointwise [product, dot, rows_at]
  rfl

/-- The reference of the output projection: the residual plus the attention output times the dequantized weights. -/
def REF (a : FVec F S112x1x2048 .bf16) (x : FVec F S112x1x8192 .bf16) (q : IVec S256x8192 32) (s : FVec F S16x8192 .bf16) :
    FVec F S112x8192 .f32 :=
  shapeCast _ (addf (extf .f32 x bitsLt_bf16_f32)
    (shapeCast _ (product (shapeCast _ a shapeCasts_S112x1x2048_S112x2048) q s) shapeCasts_S112x8192_S112x1x8192))
    shapeCasts_S112x1x8192_S112x8192

/-- The reference at an index. -/
theorem REF_at (a : FVec Ideal S112x1x2048 .bf16) (x : FVec Ideal S112x1x8192 .bf16) (q : IVec S256x8192 32)
    (s : FVec Ideal S16x8192 .bf16) (i : Fin 112) (l : Fin 8192) :
    REF a x q s (ix2 i l) = x (ix3 i 0 l) + ∑ k : Fin 2048, a (ix3 i 0 k)
      * (Codes.num (Codes.code (q (ix2 ⟨k / 8, by omega⟩ l)) (k % 8)) * s (ix2 ⟨k / 128, by omega⟩ l)) := by
  pointwise [REF, product_at]

/-- The reference's result is `REF` of its arguments. -/
theorem res_eq (m : (ℓ : Loc nD τ sig) → Buf (Elt F) ℓ) (c : Dev nD) :
    res_out0 m c = REF (F := F) (m ((c.tc : Thread nD τ).loc main_arg0)) (m ((c.tc : Thread nD τ).loc main_arg1))
      (m ((c.tc : Thread nD τ).loc main_arg2)) (m ((c.tc : Thread nD τ).loc main_arg3)) :=
  rfl

end Cert.WoRefIdeal.Value

end
-- ==== Proof.WoEq.lean ====
module

public import proofs.«01_k».proof.Defs
public import proofs.«01_k».proof.Proof.WoKer
public import proofs.«01_k».proof.Proof.WoRef

/-! The attention output projection: the kernel's output array is the reference's. -/

@[expose] public section

set_option maxRecDepth 16384

noncomputable section

namespace Cert.WoEq

open Idealize.ShloMosaic Idealize.ShloMosaic.TcCoe Idealize.SL.Sem

/-- The two closed forms are one function. -/
theorem ref_eq (a : FVec Ideal WoIdeal.S112x1x2048 .bf16) (x : FVec Ideal WoIdeal.S112x1x8192 .bf16)
    (q : IVec WoIdeal.S256x8192 32) (s : FVec Ideal WoIdeal.S16x8192 .bf16) :
    WoRefIdeal.Value.REF a x q s = WoIdeal.Value.G a x q s :=
  funext fun j => (congrArg _ (eq_ix2 j)).trans (WoRefIdeal.Value.REF_at a x q s (j 0) (j 1))

/-- The kernel over the extended reals and the reference end with the same array. -/
theorem algebraic : Cert.algebraic_WoIdeal_WoRefIdeal := by
  pair_intro
  · run_from Cert.WoIdeal.Gen.run_main m g
  · run_from Cert.WoRefIdeal.Value.run m' g'
    exact (Cert.WoRefIdeal.Value.res_eq m' _).trans (by
      rw [(hagree _).1, (hagree _).2.1, (hagree _).2.2.1, (hagree _).2.2.2]
      exact (ref_eq _ _ _ _).trans (Cert.WoIdeal.Value.final m _).symm)

end Cert.WoEq

end

end
-- ==== Proof.GuKer.lean ====
module

public import proofs.«01_k».proof.Proof.Codes
public import proofs.«01_k».proof.Proof.Gen.GuIdeal.Value
public import Idealize.ShloMosaic.Lib.Pipeline.ReadBack

@[expose] public section

set_option maxRecDepth 16384

/-!
# The gate and up projections: what the kernel computes
-/

noncomputable section
open Idealize.ShloMosaic Idealize.ShloMosaic.TcCoe Idealize.SL.Sem

namespace Cert.GuIdeal.Value
open Cert.GuIdeal Cert.GuIdeal.Gen

variable (m : (ℓ : Loc nD τ sig) → Buf (Elt Ideal) ℓ)

/-- The windows' block indices: the gate's columns are block `t` of the weights, the up projection's are block `29 + t`. -/
theorem idx : ∀ t : Fin cfg0.N, win0_0.index t = ![0, 0] ∧ win0_1.index t = ![0, 0] ∧ win0_2.index t = ![0, t.val]
    ∧ win0_3.index t = ![0, t.val] ∧ win0_4.index t = ![0, 29 + t.val] ∧ win0_5.index t = ![0, 29 + t.val]
    ∧ win0_6.index t = ![0, t.val] :=
  (by decide +kernel : ∀ t : Fin grid0.N, _)

/-- The rows the first point normalizes, at an index. -/
theorem pay2_at (h : Vec Ideal S112x8192 .f32) (g : Vec Ideal S1x8192 .f32) (i : Fin 112) (k : Fin 8192) :
    k0_pay2 (F := Ideal) h g (ix2 i k) = Ideal.div (h (ix2 i k) : EReal) (Ideal.sqrt (Ideal.div
      (∑ x : Fin 8192, (h (ix2 i x) : EReal) * (h (ix2 i x) : EReal))
      (Ideal.ofBits .f32 0x46000000#32) + Ideal.ofBits .f32 0x358637BD#32)) * (g (ix2 0 k) : EReal) := by
  pointwise [k0_pay2]

/-- The contraction of a row with a block's dequantized column. -/
def con (n : FVec Ideal S112x8192 .bf16) (q : Vec Ideal S1024x256 .i32) (s : FVec Ideal S64x256 .bf16) (i : Fin 112)
    (l : Fin 256) : EReal :=
  ∑ k : Fin 8192, n (ix2 i k) * (Codes.num (Codes.code (q (ix2 ⟨k / 8, by omega⟩ l)) (k % 8)) * s (ix2 ⟨k / 128, by omega⟩ l))

/-- The gate's contraction at an index. -/
theorem pay3_at (n : Vec Ideal S112x8192 .bf16) (q : Vec Ideal S1024x256 .i32) (s : Vec Ideal S64x256 .bf16) (i : Fin 112)
    (l : Fin 256) : k0_pay3 (F := Ideal) n q s (ix2 i l) = con n q s i l := by
  pointwise [k0_pay3]
  rfl

/-- What a point stores, at an index, over the carried normalized rows `n` and the gate's contraction `p`. -/
theorem pay1_at (n : Vec Ideal S112x8192 .bf16) (p : FVec Ideal S112x256 .f32) (q : Vec Ideal S1024x256 .i32)
    (s : Vec Ideal S64x256 .bf16) (i : Fin 112) (l : Fin 256) :
    k0_pay1 (F := Ideal) n p s (k0_pay4 (F := Ideal) q) k0_pay5 k0_pay6 (ix2 i l)
      = p (ix2 i l) * Ideal.logistic (p (ix2 i l)) * con n q s i l := by
  pointwise [k0_pay1, k0_pay4, k0_pay5, k0_pay6]
  rfl

/-- The normalized rows, of the argument arrays. -/
abbrev rowsOf (c : Dev nD) : FVec Ideal S112x8192 .bf16 :=
  k0_pay2 (F := Ideal) (iblk m c 0 ⟨0, lt_of_lt_of_eq (by decide) N_0.symm⟩) (iblk m c 1 ⟨0, lt_of_lt_of_eq (by decide) N_0.symm⟩)

/-- After every point the carried scratch holds the rows the first point normalized. -/
theorem carried (c : Dev nD) : ∀ (n : ℕ) (hn : n < cfg0.N), (outsAt0 m c n hn).2 = rowsOf m c
  | 0, hn => by
    rw [outsAt0_A m c ⟨0, hn⟩ rfl]
    frame_out
  | n + 1, hn => by
    have hN := lt_of_lt_of_eq hn (show cfg0.N = 29 from N_0)
    rw [outsAt0_B m c ⟨n + 1, hn⟩ (by show ¬ (n + 1) % 29 = 0; omega)]
    exact carried c n (Nat.lt_of_succ_lt hn)

/-- What the output holds after point `t`: the gated activation over the carried rows. -/
theorem stored (c : Dev nD) (t : Fin cfg0.N) : (outsAt0 m c t.val t.isLt).1
    = k0_pay1 (F := Ideal) (rowsOf m c) (k0_pay3 (rowsOf m c) (iblk m c 2 t) (iblk m c 3 t)) (iblk m c 5 t)
        (k0_pay4 (F := Ideal) (iblk m c 4 t)) k0_pay5 k0_pay6 := by
  by_cases h : t.val % 29 = 0
  · have ht : t = ⟨0, lt_of_lt_of_eq (by decide) N_0.symm⟩ := by
      have hN := lt_of_lt_of_eq t.isLt (show cfg0.N = 29 from N_0)
      exact Fin.ext (by show t.val = 0; omega)
    rw [outsAt0_A m c t h]
    frame_out
    subst ht
    rfl
  · rw [outsAt0_B m c t h]
    frame_out
    rw [read_unread_whole, carried]

/-- The normalized row `i` at column `k`. -/
def norm (h : FVec Ideal S112x8192 .f32) (g : FVec Ideal S8192 .f32) (i : Fin 112) (k : Fin 8192) : EReal :=
  Ideal.div (h (ix2 i k)) (Ideal.sqrt (Ideal.div (∑ x : Fin 8192, h (ix2 i x) * h (ix2 i x))
    (Ideal.ofBits .f32 0x46000000#32) + Ideal.ofBits .f32 0x358637BD#32)) * g (ix1 k)

/-- The contraction of the normalized row `i` with the dequantized column `l`. -/
def full (h : FVec Ideal S112x8192 .f32) (g : FVec Ideal S8192 .f32) (q : IVec S1024x14848 32) (s : FVec Ideal S64x14848 .bf16)
    (i : Fin 112) (l : Fin 14848) : EReal :=
  ∑ k : Fin 8192, norm h g i k * (Codes.num (Codes.code (q (ix2 ⟨k / 8, by omega⟩ l)) (k % 8)) * s (ix2 ⟨k / 128, by omega⟩ l))

/-- The output array at an index. -/
def G (h : FVec Ideal S112x8192 .f32) (g : FVec Ideal S8192 .f32) (q : IVec S1024x14848 32) (s : FVec Ideal S64x14848 .bf16) :
    FVec Ideal S112x7424 .bf16 := fun j =>
  have hj : (j 1 : ℕ) < 7424 := (j 1).isLt
  full h g q s (j 0) ⟨j 1, by omega⟩ * Ideal.logistic (full h g q s (j 0) ⟨j 1, by omega⟩)
    * full h g q s (j 0) ⟨7424 + j 1, by omega⟩

/-- The rows a point would normalize are the normalized rows of the arguments. -/
theorem pay2_blocks (c : Dev nD) (t : Fin cfg0.N) (i : Fin 112) (k : Fin 8192) :
    k0_pay2 (F := Ideal) (iblk m c 0 t) (iblk m c 1 t) (ix2 i k)
      = norm (m ((c : Thread nD τ).loc main_arg0)) (m ((c : Thread nD τ).loc main_arg1)) i k := by
  rw [pay2_at]
  unfold norm
  blk_point [iblk, V, idx t]

/-- The carried rows are the normalized rows of the arguments. -/
theorem rowsOf_at (c : Dev nD) (i : Fin 112) (k : Fin 8192) : rowsOf m c (ix2 i k)
    = norm (m ((c : Thread nD τ).loc main_arg0)) (m ((c : Thread nD τ).loc main_arg1)) i k :=
  pay2_blocks m c _ i k

/-- A block's contraction over the carried rows is the contraction with the column the block holds. -/
theorem con_gate (c : Dev nD) (t : Fin cfg0.N) (i : Fin 112) (l : Fin 256) (l' : Fin 14848) (hl : (l' : ℕ) = t.val * 256 + l) :
    con (rowsOf m c) (iblk m c 2 t) (iblk m c 3 t) i l
      = full (m ((c : Thread nD τ).loc main_arg0)) (m ((c : Thread nD τ).loc main_arg1)) (m ((c : Thread nD τ).loc main_arg2))
          (m ((c : Thread nD τ).loc main_arg3)) i l' := by
  unfold con full
  simp only [rowsOf_at]
  blk_point [iblk, V, idx t]

/-- The same for the up projection's block. -/
theorem con_up (c : Dev nD) (t : Fin cfg0.N) (i : Fin 112) (l : Fin 256) (l' : Fin 14848)
    (hl : (l' : ℕ) = (29 + t.val) * 256 + l) :
    con (rowsOf m c) (iblk m c 4 t) (iblk m c 5 t) i l
      = full (m ((c : Thread nD τ).loc main_arg0)) (m ((c : Thread nD τ).loc main_arg1)) (m ((c : Thread nD τ).loc main_arg2))
          (m ((c : Thread nD τ).loc main_arg3)) i l' := by
  unfold con full
  simp only [rowsOf_at]
  blk_point [iblk, V, idx t]

/-- What point `t` stores, at an index of the block. -/
theorem stored_at (c : Dev nD) (t : Fin cfg0.N) (i : Fin 112) (l : Fin 256) (l₁ l₂ : Fin 14848)
    (h₁ : (l₁ : ℕ) = t.val * 256 + l) (h₂ : (l₂ : ℕ) = (29 + t.val) * 256 + l) :
    (show FVec Ideal S112x256 .bf16 from (outsAt0 m c t.val t.isLt).1) (ix2 i l)
      = full (m ((c : Thread nD τ).loc main_arg0)) (m ((c : Thread nD τ).loc main_arg1)) (m ((c : Thread nD τ).loc main_arg2))
            (m ((c : Thread nD τ).loc main_arg3)) i l₁
          * Ideal.logistic (full (m ((c : Thread nD τ).loc main_arg0)) (m ((c : Thread nD τ).loc main_arg1))
              (m ((c : Thread nD τ).loc main_arg2)) (m ((c : Thread nD τ).loc main_arg3)) i l₁)
          * full (m ((c : Thread nD τ).loc main_arg0)) (m ((c : Thread nD τ).loc main_arg1)) (m ((c : Thread nD τ).loc main_arg2))
            (m ((c : Thread nD τ).loc main_arg3)) i l₂ := by
  rw [stored]
  refine (pay1_at _ _ _ _ i l).trans ?_
  rw [pay3_at, con_gate m c t i l l₁ h₁, con_up m c t i l l₂ h₂]

/-- What point `t` stores is block `t` of `G`. -/
theorem point (c : Dev nD) (t : Fin cfg0.N) (y : S112x256.Idx) :
    (outsAt0 m c t.val t.isLt).1 y
      = G (m ((c : Thread nD τ).loc main_arg0)) (m ((c : Thread nD τ).loc main_arg1)) (m ((c : Thread nD τ).loc main_arg2))
          (m ((c : Thread nD τ).loc main_arg3)) (((cfg0.win 6).blk t).view.emb y) := by
  have hN := lt_of_lt_of_eq t.isLt (show cfg0.N = 29 from N_0)
  have h1 : (y 1 : ℕ) < 256 := (y 1).isLt
  refine (congrArg _ (eq_ix2 y)).trans ((stored_at m c t (y 0) (y 1) ⟨t.val * 256 + (y 1 : ℕ), by omega⟩
    ⟨(29 + t.val) * 256 + (y 1 : ℕ), by omega⟩ rfl rfl).trans ?_)
  have e0 : ((cfg0.win 6).blk t).view.emb y 0 = y 0 := by
    refine Fin.ext ?_
    blk_simp [idx t]
  have e1 : (((cfg0.win 6).blk t).view.emb y 1 : ℕ) = t.val * 256 + (y 1 : ℕ) := by
    blk_simp [idx t]
  unfold G
  refine congrArg₂ (· * ·) (congrArg (fun x => x * Ideal.logistic x) ?_) ?_
  · exact congrArg₂ (full _ _ _ _) e0.symm (Fin.ext e1.symm)
  · refine congrArg₂ (full _ _ _ _) e0.symm (Fin.ext ?_)
    show (29 + t.val) * 256 + (y 1 : ℕ) = 7424 + _
    rw [e1]
    omega

/-- The output array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  exact point m c t y

end Cert.GuIdeal.Value

end
-- ==== Proof.GuRef.lean ====
module

public import proofs.«01_k».proof.Proof.Codes
public import proofs.«01_k».proof.Proof.Gen.GuRefIdeal.Run

@[expose] public section

set_option maxRecDepth 16384

/-!
# The reference of the gate and up projections

The composed term of the reference's results, restated in named pieces and read at an index: the eight contractions over
one nibble's rows each are `Codes.part`.
-/

noncomputable section
open Idealize.ShloMosaic Idealize.ShloMosaic.TcCoe Idealize.SL.Sem

namespace Cert.GuRefIdeal.Value
open Cert.GuRefIdeal Cert.GuRefIdeal.Gen

variable {F : FTy → Type} [FloatOps F]

/-- The dequantized rows of one nibble, `sh` its first bit: the codes less 8, times the scales of their groups. -/
def rows (sh : BitVec 32) (q : IVec S1024x14848 32) (s : FVec F S64x14848 .bf16) : FVec F S1024x14848 .bf16 :=
  shapeCast _ (mulf
    (shapeCast _ (sitofp .bf16 (subi (andi
      (Host.shrsi q (broadcastInDim S1024x14848 ![] bcast_S_S1024x14848 (constantI S_ 32 sh)))
      (broadcastInDim S1024x14848 ![] bcast_S_S1024x14848 (constantI S_ 32 15#32)))
      (broadcastInDim S1024x14848 ![] bcast_S_S1024x14848 (constantI S_ 32 8#32)))) shapeCasts_S1024x14848_S64x16x14848)
    (broadcastInDim S64x16x14848 ![0, 1, 2] bcast_S64x1x14848_S64x16x14848_0_1_2
      (broadcastInDim S64x1x14848 ![0, 2] bcast_S64x14848_S64x1x14848_0_2 s))) shapeCasts_S64x16x14848_S1024x14848

/-- A dequantized row at a column. -/
theorem rows_at (sh : BitVec 32) (q : IVec S1024x14848 32) (s : FVec Ideal S64x14848 .bf16) (k : Fin 1024) (l : Fin 14848) :
    rows sh q s (ix2 k l) = Codes.num (Codes.refCode (q (ix2 k l)) sh) * s (ix2 ⟨k / 16, by omega⟩ l) := by
  pointwise [rows]
  rfl

/-- One nibble's contraction. -/
def dot (a : FVec F S112x1024 .bf16) (w : FVec F S1024x14848 .bf16) : FVec F S112x14848 .f32 :=
  Host.dotGeneral dot_S112x1024_S1024x14848_S112x14848_1_0_0_1_n_n none a w

/-- The product with the dequantized weights: the eight nibbles' contractions, added in order. -/
def product (a : FVec F S112x8192 .bf16) (q : IVec S1024x14848 32) (s : FVec F S64x14848 .bf16) : FVec F S112x14848 .f32 :=
  addf (addf (addf (addf (addf (addf (addf
    (dot (Host.slice S112x1024 ![0, 0] ![1, 8] a slicesBy_S112x8192_S112x1024_0s1_0s8) (rows 0#32 q s))
    (dot (Host.slice S112x1024 ![0, 1] ![1, 8] a slicesBy_S112x8192_S112x1024_0s1_1s8) (rows 4#32 q s)))
    (dot (Host.slice S112x1024 ![0, 2] ![1, 8] a slicesBy_S112x8192_S112x1024_0s1_2s8) (rows 8#32 q s)))
    (dot (Host.slice S112x1024 ![0, 3] ![1, 8] a slicesBy_S112x8192_S112x1024_0s1_3s8) (rows 12#32 q s)))
    (dot (Host.slice S112x1024 ![0, 4] ![1, 8] a slicesBy_S112x8192_S112x1024_0s1_4s8) (rows 16#32 q s)))
    (dot (Host.slice S112x1024 ![0, 5] ![1, 8] a slicesBy_S112x8192_S112x1024_0s1_5s8) (rows 20#32 q s)))
    (dot (Host.slice S112x1024 ![0, 6] ![1, 8] a slicesBy_S112x8192_S112x1024_0s1_6s8) (rows 24#32 q s)))
    (dot (Host.slice S112x1024 ![0, 7] ![1, 8] a slicesBy_S112x8192_S112x1024_0s1_7s8) (rows 28#32 q s))

/-- The product at an index: the sum of the eight parts. -/
theorem product_at (a : FVec Ideal S112x8192 .bf16) (q : IVec S1024x14848 32) (s : FVec Ideal S64x14848 .bf16) (i : Fin 112)
    (l : Fin 14848) :
    product a q s (ix2 i l) = ∑ x : Fin 8192, a (ix2 i x) * (Codes.num (Codes.code (q (ix2 ⟨x / 8, by omega⟩ l)) (x % 8))
      * s (ix2 ⟨x / 128, by omega⟩ l)) := by
  refine Eq.trans ?_ (Codes.sum_codes (K := 8192) (Kp := 1024) (G := 64) rfl rfl (fun k => a (ix2 i k))
    (fun r => q (ix2 r l)) (fun g => s (ix2 g l))).symm
  rw [Codes.part_zero]
  pointwise [product, dot, rows_at]
  rfl

/-- The normalized input rows, scaled by the gains. -/
def norm (h : FVec F S112x8192 .f32) (g : FVec F S8192 .f32) : FVec F S112x8192 .bf16 :=
  truncf .bf16 (mulf
    (Host.divf h (broadcastInDim S112x8192 ![0, 1] bcast_S112x1_S112x8192_0_1
      (Host.sqrt (addf
        (Host.divf (broadcastInDim S112x1 ![0] bcast_S112_S112x1_0
          (Host.reduceAdd (mulf h h) (constant S_ .f32 0x00000000#32) reducesTo_S112x8192_S112_d1 h_S_))
          (broadcastInDim S112x1 ![] bcast_S_S112x1 (constant S_ .f32 0x46000000#32)))
        (broadcastInDim S112x1 ![] bcast_S_S112x1 (constant S_ .f32 0x358637BD#32))))))
    (broadcastInDim S112x8192 ![0, 1] bcast_S1x8192_S112x8192_0_1 (broadcastInDim S1x8192 ![1] bcast_S8192_S1x8192_1 g)))
    bitsLt_bf16_f32

/-- A normalized row at a column. -/
theorem norm_at (h : FVec Ideal S112x8192 .f32) (g : FVec Ideal S8192 .f32) (i : Fin 112) (k : Fin 8192) :
    norm h g (ix2 i k) = Ideal.div (h (ix2 i k)) (Ideal.sqrt (Ideal.div (∑ x : Fin 8192, h (ix2 i x) * h (ix2 i x))
      (Ideal.ofBits .f32 0x46000000#32) + Ideal.ofBits .f32 0x358637BD#32)) * g (ix1 k) := by
  pointwise [norm]

/-- The gated activation of the two halves of a product: `x * (1 / (1 + exp (-x))) * y`. -/
def gated (p : FVec F S112x14848 .f32) : FVec F S112x7424 .bf16 :=
  truncf .bf16 (mulf
    (mulf (extractStridedSlice S112x7424 ![0, 0] p slices_S112x14848_S112x7424_0_0)
      (Host.divf (broadcastInDim S112x7424 ![] bcast_S_S112x7424 (constant S_ .f32 0x3F800000#32))
        (addf (broadcastInDim S112x7424 ![] bcast_S_S112x7424 (constant S_ .f32 0x3F800000#32))
          (Host.exp (Host.negf (extractStridedSlice S112x7424 ![0, 0] p slices_S112x14848_S112x7424_0_0))))))
    (extractStridedSlice S112x7424 ![0, 7424] p slices_S112x14848_S112x7424_0_7424)) bitsLt_bf16_f32

/-- The gated activation at an index. -/
theorem gated_at (p : FVec Ideal S112x14848 .f32) (i : Fin 112) (l : Fin 7424) :
    gated p (ix2 i l) = p (ix2 i ⟨l, by omega⟩) * Ideal.logistic (p (ix2 i ⟨l, by omega⟩))
      * p (ix2 i ⟨7424 + l, by omega⟩) := by
  pointwise [gated]
  rfl

/-- The reference of the gate and up projections. -/
def REF (h : FVec F S112x8192 .f32) (g : FVec F S8192 .f32) (q : IVec S1024x14848 32) (s : FVec F S64x14848 .bf16) :
    FVec F S112x7424 .bf16 :=
  gated (product (norm h g) q s)

/-- The product of the normalized rows at an index. -/
theorem product_norm_at (h : FVec Ideal S112x8192 .f32) (g : FVec Ideal S8192 .f32) (q : IVec S1024x14848 32)
    (s : FVec Ideal S64x14848 .bf16) (i : Fin 112) (l : Fin 14848) : product (norm h g) q s (ix2 i l)
      = ∑ k : Fin 8192, Ideal.div (h (ix2 i k)) (Ideal.sqrt (Ideal.div (∑ x : Fin 8192, h (ix2 i x) * h (ix2 i x))
          (Ideal.ofBits .f32 0x46000000#32) + Ideal.ofBits .f32 0x358637BD#32)) * g (ix1 k)
        * (Codes.num (Codes.code (q (ix2 ⟨k / 8, by omega⟩ l)) (k % 8)) * s (ix2 ⟨k / 128, by omega⟩ l)) := by
  rw [product_at]
  exact Finset.sum_congr rfl fun k _ => congrArg₂ (· * ·) (norm_at h g i k) rfl

/-- The reference's result is `REF` of its arguments. -/
theorem res_eq (m : (ℓ : Loc nD τ sig) → Buf (Elt F) ℓ) (c : Dev nD) :
    res_out0 m c = REF (F := F) (m ((c.tc : Thread nD τ).loc main_arg0)) (m ((c.tc : Thread nD τ).loc main_arg1))
      (m ((c.tc : Thread nD τ).loc main_arg2)) (m ((c.tc : Thread nD τ).loc main_arg3)) :=
  rfl

end Cert.GuRefIdeal.Value

end
-- ==== Proof.GuEq.lean ====
module

public import proofs.«01_k».proof.Defs
public import proofs.«01_k».proof.Proof.GuKer
public import proofs.«01_k».proof.Proof.GuRef

/-! The MLP's normalization, gate and up projections and activation: the kernel's output array is the reference's. -/

@[expose] public section

set_option maxRecDepth 16384

noncomputable section

namespace Cert.GuEq

open Idealize.ShloMosaic Idealize.ShloMosaic.TcCoe Idealize.SL.Sem

/-- The two closed forms are one function. -/
theorem ref_eq (h : FVec Ideal GuIdeal.S112x8192 .f32) (g : FVec Ideal GuIdeal.S8192 .f32)
    (q : IVec GuIdeal.S1024x14848 32) (s : FVec Ideal GuIdeal.S64x14848 .bf16) :
    GuRefIdeal.Value.REF h g q s = GuIdeal.Value.G h g q s := by
  funext j
  have hj : (j 1 : ℕ) < 7424 := (j 1).isLt
  refine (congrArg _ (eq_ix2 j)).trans ((GuRefIdeal.Value.gated_at _ (j 0) (j 1)).trans ?_)
  rw [GuRefIdeal.Value.product_norm_at h g q s (j 0) ⟨j 1, by omega⟩,
    GuRefIdeal.Value.product_norm_at h g q s (j 0) ⟨7424 + j 1, by omega⟩]
  rfl

/-- The kernel over the extended reals and the reference end with the same array. -/
theorem algebraic : Cert.algebraic_GuIdeal_GuRefIdeal := by
  pair_intro
  · run_from Cert.GuIdeal.Gen.run_main m g
  · run_from Cert.GuRefIdeal.Value.run m' g'
    exact (Cert.GuRefIdeal.Value.res_eq m' _).trans (by
      rw [(hagree _).1, (hagree _).2.1, (hagree _).2.2.1, (hagree _).2.2.2]
      exact (ref_eq _ _ _ _).trans (Cert.GuIdeal.Value.final m _).symm)

end Cert.GuEq

end

end
-- ==== Proof.DownKer.lean ====
module

public import proofs.«01_k».proof.Proof.Codes
public import proofs.«01_k».proof.Proof.Gen.DownIdeal.Value

@[expose] public section

set_option maxRecDepth 16384

/-!
# The down projection: what the kernel computes
-/

noncomputable section
open Idealize.ShloMosaic Idealize.ShloMosaic.TcCoe Idealize.SL.Sem

namespace Cert.DownIdeal.Value
open Cert.DownIdeal Cert.DownIdeal.Gen

variable (m : (ℓ : Loc nD τ sig) → Buf (Elt Ideal) ℓ)

/-- The windows' block indices: every block is the one of the point's columns, but the left operand's, which is whole. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- What a point stores, at an index: the residual plus the contraction with the dequantized weights. -/
theorem pay_at (q : Vec Ideal S928x512 .i32) (s : Vec Ideal S58x512 .bf16) (x : Vec Ideal S112x512 .f32)
    (a : Vec Ideal S112x7424 .bf16) (i : Fin 112) (l : Fin 512) :
    k0_pay1 (F := Ideal) q s x a (ix2 i l) = (x (ix2 i l) : EReal) + ∑ k : Fin 7424, (a (ix2 i k) : EReal)
      * (Codes.num (Codes.code (q (ix2 ⟨k / 8, by omega⟩ l)) (k % 8)) * (s (ix2 ⟨k / 128, by omega⟩ l) : EReal)) := by
  pointwise [k0_pay1]
  rfl

/-- The output array at an index. -/
def G (a : FVec Ideal S112x7424 .bf16) (h : FVec Ideal S112x8192 .f32) (q : IVec S928x8192 32)
    (s : FVec Ideal S58x8192 .bf16) : FVec Ideal S112x8192 .bf16 := fun j =>
  h (ix2 (j 0) (j 1)) + ∑ k : Fin 7424, a (ix2 (j 0) k)
    * (Codes.num (Codes.code (q (ix2 ⟨k / 8, by omega⟩ (j 1))) (k % 8)) * s (ix2 ⟨k / 128, by omega⟩ (j 1)))

/-- What point `t` stores is block `t` of `G`. -/
theorem point (c : Dev nD) (t : Fin cfg0.N) (y : S112x512.Idx) :
    out0_4 (F := Ideal) (iblk m c 0 t) (iblk m c 1 t) (iblk m c 2 t) (iblk m c 3 t) y
      = G (m ((c : Thread nD τ).loc main_arg0)) (m ((c : Thread nD τ).loc main_arg1)) (m ((c : Thread nD τ).loc main_arg2))
          (m ((c : Thread nD τ).loc main_arg3)) (((cfg0.win 4).blk t).view.emb y) := by
  unfold out0_4
  frame_out
  refine (congrArg _ (eq_ix2 y)).trans ((pay_at _ _ _ _ (y 0) (y 1)).trans ?_)
  unfold G
  blk_point [iblk, V, idx t]

/-- The output array after the run. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  exact point m c t y

end Cert.DownIdeal.Value

end
-- ==== Proof.DownRef.lean ====
module

public import proofs.«01_k».proof.Proof.Codes
public import proofs.«01_k».proof.Proof.Gen.DownRefIdeal.Run

@[expose] public section

set_option maxRecDepth 16384

/-!
# The reference of the down projection

The composed term of the reference's results, restated in named pieces and read at an index: the eight contractions over
one nibble's rows each are `Codes.part`.
-/

noncomputable section
open Idealize.ShloMosaic Idealize.ShloMosaic.TcCoe Idealize.SL.Sem

namespace Cert.DownRefIdeal.Value
open Cert.DownRefIdeal Cert.DownRefIdeal.Gen

variable {F : FTy → Type} [FloatOps F]

/-- The dequantized rows of one nibble, `sh` its first bit: the codes less 8, times the scales of their groups. -/
def rows (sh : BitVec 32) (q : IVec S928x8192 32) (s : FVec F S58x8192 .bf16) : FVec F S928x8192 .bf16 :=
  shapeCast _ (mulf
    (shapeCast _ (sitofp .bf16 (subi (andi
      (Host.shrsi q (broadcastInDim S928x8192 ![] bcast_S_S928x8192 (constantI S_ 32 sh)))
      (broadcastInDim S928x8192 ![] bcast_S_S928x8192 (constantI S_ 32 15#32)))
      (broadcastInDim S928x8192 ![] bcast_S_S928x8192 (constantI S_ 32 8#32)))) shapeCasts_S928x8192_S58x16x8192)
    (broadcastInDim S58x16x8192 ![0, 1, 2] bcast_S58x1x8192_S58x16x8192_0_1_2
      (broadcastInDim S58x1x8192 ![0, 2] bcast_S58x8192_S58x1x8192_0_2 s))) shapeCasts_S58x16x8192_S928x8192

/-- A dequantized row at a column. -/
theorem rows_at (sh : BitVec 32) (q : IVec S928x8192 32) (s : FVec Ideal S58x8192 .bf16) (k : Fin 928) (l : Fin 8192) :
    rows sh q s (ix2 k l) = Codes.num (Codes.refCode (q (ix2 k l)) sh) * s (ix2 ⟨k / 16, by omega⟩ l) := by
  pointwise [rows]
  rfl

/-- One nibble's contraction. -/
def dot (a : FVec F S112x928 .bf16) (w : FVec F S928x8192 .bf16) : FVec F S112x8192 .f32 :=
  Host.dotGeneral dot_S112x928_S928x8192_S112x8192_1_0_0_1_n_n none a w

/-- The product with the dequantized weights: the eight nibbles' contractions, added in order. -/
def product (a : FVec F S112x7424 .bf16) (q : IVec S928x8192 32) (s : FVec F S58x8192 .bf16) : FVec F S112x8192 .f32 :=
  addf (addf (addf (addf (addf (addf (addf
    (dot (Host.slice S112x928 ![0, 0] ![1, 8] a slicesBy_S112x7424_S112x928_0s1_0s8) (rows 0#32 q s))
    (dot (Host.slice S112x928 ![0, 1] ![1, 8] a slicesBy_S112x7424_S112x928_0s1_1s8) (rows 4#32 q s)))
    (dot (Host.slice S112x928 ![0, 2] ![1, 8] a slicesBy_S112x7424_S112x928_0s1_2s8) (rows 8#32 q s)))
    (dot (Host.slice S112x928 ![0, 3] ![1, 8] a slicesBy_S112x7424_S112x928_0s1_3s8) (rows 12#32 q s)))
    (dot (Host.slice S112x928 ![0, 4] ![1, 8] a slicesBy_S112x7424_S112x928_0s1_4s8) (rows 16#32 q s)))
    (dot (Host.slice S112x928 ![0, 5] ![1, 8] a slicesBy_S112x7424_S112x928_0s1_5s8) (rows 20#32 q s)))
    (dot (Host.slice S112x928 ![0, 6] ![1, 8] a slicesBy_S112x7424_S112x928_0s1_6s8) (rows 24#32 q s)))
    (dot (Host.slice S112x928 ![0, 7] ![1, 8] a slicesBy_S112x7424_S112x928_0s1_7s8) (rows 28#32 q s))

/-- The product at an index: the sum of the eight parts. -/
theorem product_at (a : FVec Ideal S112x7424 .bf16) (q : IVec S928x8192 32) (s : FVec Ideal S58x8192 .bf16) (i : Fin 112)
    (l : Fin 8192) :
    product a q s (ix2 i l) = ∑ x : Fin 7424, a (ix2 i x) * (Codes.num (Codes.code (q (ix2 ⟨x / 8, by omega⟩ l)) (x % 8))
      * s (ix2 ⟨x / 128, by omega⟩ l)) := by
  refine Eq.trans ?_ (Codes.sum_codes (K := 7424) (Kp := 928) (G := 58) rfl rfl (fun k => a (ix2 i k))
    (fun r => q (ix2 r l)) (fun g => s (ix2 g l))).symm
  rw [Codes.part_zero]
  pointwise [product, dot, rows_at]
  rfl

/-- The reference of the down projection: the residual plus the activation times the dequantized weights. -/
def REF (a : FVec F S112x7424 .bf16) (h : FVec F S112x8192 .f32) (q : IVec S928x8192 32) (s : FVec F S58x8192 .bf16) :
    FVec F S112x8192 .bf16 :=
  truncf .bf16 (addf h (product a q s)) bitsLt_bf16_f32

/-- The reference at an index. -/
theorem REF_at (a : FVec Ideal S112x7424 .bf16) (h : FVec Ideal S112x8192 .f32) (q : IVec S928x8192 32)
    (s : FVec Ideal S58x8192 .bf16) (i : Fin 112) (l : Fin 8192) :
    REF a h q s (ix2 i l) = h (ix2 i l) + ∑ k : Fin 7424, a (ix2 i k)
      * (Codes.num (Codes.code (q (ix2 ⟨k / 8, by omega⟩ l)) (k % 8)) * s (ix2 ⟨k / 128, by omega⟩ l)) := by
  pointwise [REF, product_at]

/-- The reference's result is `REF` of its arguments. -/
theorem res_eq (m : (ℓ : Loc nD τ sig) → Buf (Elt F) ℓ) (c : Dev nD) :
    res_out0 m c = REF (F := F) (m ((c.tc : Thread nD τ).loc main_arg0)) (m ((c.tc : Thread nD τ).loc main_arg1))
      (m ((c.tc : Thread nD τ).loc main_arg2)) (m ((c.tc : Thread nD τ).loc main_arg3)) :=
  rfl

end Cert.DownRefIdeal.Value

end
-- ==== Proof.DownEq.lean ====
module

public import proofs.«01_k».proof.Defs
public import proofs.«01_k».proof.Proof.DownKer
public import proofs.«01_k».proof.Proof.DownRef

/-! The MLP's down projection: the kernel's output array is the reference's. -/

@[expose] public section

set_option maxRecDepth 16384

noncomputable section

namespace Cert.DownEq

open Idealize.ShloMosaic Idealize.ShloMosaic.TcCoe Idealize.SL.Sem

/-- The two closed forms are one function. -/
theorem ref_eq (a : FVec Ideal DownIdeal.S112x7424 .bf16) (h : FVec Ideal DownIdeal.S112x8192 .f32)
    (q : IVec DownIdeal.S928x8192 32) (s : FVec Ideal DownIdeal.S58x8192 .bf16) :
    DownRefIdeal.Value.REF a h q s = DownIdeal.Value.G a h q s :=
  funext fun j => (congrArg _ (eq_ix2 j)).trans (DownRefIdeal.Value.REF_at a h q s (j 0) (j 1))

/-- The kernel over the extended reals and the reference end with the same array. -/
theorem algebraic : Cert.algebraic_DownIdeal_DownRefIdeal := by
  pair_intro
  · run_from Cert.DownIdeal.Gen.run_main m g
  · run_from Cert.DownRefIdeal.Value.run m' g'
    exact (Cert.DownRefIdeal.Value.res_eq m' _).trans (by
      rw [(hagree _).1, (hagree _).2.1, (hagree _).2.2.1, (hagree _).2.2.2]
      exact (ref_eq _ _ _ _).trans (Cert.DownIdeal.Value.final m _).symm)

end Cert.DownEq

end

end
-- ==== Proof.lean ====
module

public import proofs.«01_k».proof.Defs
public import proofs.«01_k».proof.Proof.QkvBitsFrame
public import proofs.«01_k».proof.Proof.QkvEq
public import proofs.«01_k».proof.Proof.Gen.Wo
public import proofs.«01_k».proof.Proof.Gen.Wo.Frame
public import proofs.«01_k».proof.Proof.Gen.WoIdeal.Value
public import proofs.«01_k».proof.Proof.Gen.WoIdeal.Frame
public import proofs.«01_k».proof.Proof.Gen.WoRefIdeal.Run
public import proofs.«01_k».proof.Proof.WoEq
public import proofs.«01_k».proof.Proof.Gen.Gu
public import proofs.«01_k».proof.Proof.Gen.Gu.Frame
public import proofs.«01_k».proof.Proof.Gen.GuIdeal.Value
public import proofs.«01_k».proof.Proof.Gen.GuIdeal.Frame
public import proofs.«01_k».proof.Proof.Gen.GuRefIdeal.Run
public import proofs.«01_k».proof.Proof.GuEq
public import proofs.«01_k».proof.Proof.Gen.Down
public import proofs.«01_k».proof.Proof.Gen.Down.Frame
public import proofs.«01_k».proof.Proof.Gen.DownIdeal.Value
public import proofs.«01_k».proof.Proof.Gen.DownIdeal.Frame
public import proofs.«01_k».proof.Proof.Gen.DownRefIdeal.Run
public import proofs.«01_k».proof.Proof.DownEq
public import Idealize.ShloMosaic.Adequacy
public import Idealize.ShloMosaic.Init

@[expose] public section

noncomputable section

namespace Cert.Proof

open Idealize.ShloMosaic Idealize.SL.Sem

/-- The Qkv reference ends, on every run, with its arguments as they were and no semaphore raised. -/
theorem quiescent_QkvRef : Cert.quiescent_QkvRefIdeal := by
  intro m g _
  exact (θ_run _ _ _).mono (fun r h => ⟨fun c => (h c).2.2.2.2.2, sem_eq_zero_of_no_sems (by decide) _⟩)
    (Cert.QkvRefIdeal.Value.run m g)

/-- The Wo reference ends, on every run, with its arguments as they were and no semaphore raised. -/
theorem quiescent_WoRef : Cert.quiescent_WoRefIdeal := by
  intro m g _
  exact (θ_run _ _ _).mono (fun r h => ⟨fun c => (h c).2, sem_eq_zero_of_no_sems (by decide) _⟩)
    (Cert.WoRefIdeal.Value.run m g)

/-- The Gu reference ends, on every run, with its arguments as they were and no semaphore raised. -/
theorem quiescent_GuRef : Cert.quiescent_GuRefIdeal := by
  intro m g _
  exact (θ_run _ _ _).mono (fun r h => ⟨fun c => (h c).2, sem_eq_zero_of_no_sems (by decide) _⟩)
    (Cert.GuRefIdeal.Value.run m g)

/-- The Down reference ends, on every run, with its arguments as they were and no semaphore raised. -/
theorem quiescent_DownRef : Cert.quiescent_DownRefIdeal := by
  intro m g _
  exact (θ_run _ _ _).mono (fun r h => ⟨fun c => (h c).2, sem_eq_zero_of_no_sems (by decide) _⟩)
    (Cert.DownRefIdeal.Value.run m g)

/-- Every claim of the certificate. -/
theorem claim : Cert.Claim :=
  ⟨Cert.Qkv.Gen.facts, Cert.QkvIdeal.Gen.facts, Cert.QkvRefIdeal.Gen.facts,
   Cert.Wo.Gen.facts, Cert.WoIdeal.Gen.facts, Cert.WoRefIdeal.Gen.facts,
   Cert.Gu.Gen.facts, Cert.GuIdeal.Gen.facts, Cert.GuRefIdeal.Gen.facts,
   Cert.Down.Gen.facts, Cert.DownIdeal.Gen.facts, Cert.DownRefIdeal.Gen.facts,
   fun m g _ => Cert.Qkv.Gen.frame m g, fun m g _ => Cert.QkvIdeal.Gen.frame m g, quiescent_QkvRef,
   fun m g _ => Cert.Wo.Gen.frame m g, fun m g _ => Cert.WoIdeal.Gen.frame m g, quiescent_WoRef,
   fun m g _ => Cert.Gu.Gen.frame m g, fun m g _ => Cert.GuIdeal.Gen.frame m g, quiescent_GuRef,
   fun m g _ => Cert.Down.Gen.frame m g, fun m g _ => Cert.DownIdeal.Gen.frame m g, quiescent_DownRef,
   trivial, Cert.QkvEq.algebraic,
   trivial, Cert.WoEq.algebraic,
   trivial, Cert.GuEq.algebraic,
   trivial, Cert.DownEq.algebraic⟩

end Cert.Proof

end
